-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_outproj [hPre_finite_outproj : Cert.Pre_finite_outproj.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_outproj.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite_outproj.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite_outproj.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_outproj [hPre_finite_outproj : Cert.Pre_finite_outproj.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_outproj.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite_outproj.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite_outproj.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_outproj [hKernel4Ideal : Cert.Kernel4Ideal.Facts] [hPre_finite_outproj : Cert.Pre_finite_outproj.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_outproj m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_outproj [hReference4Ideal : Cert.Reference4Ideal.Facts] [hPre_finite_outproj : Cert.Pre_finite_outproj.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_outproj m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.bf16_pair.BufferStatement Cert.Kernel4Ideal.S4096x2x128 Cert.Kernel4Ideal.S4096x1x128
  ∧ IdealRules.bf16_pair.PackStatement Cert.Kernel4Ideal.S512x1024
  ∧ IdealRules.bf16_pair.Statement Cert.Kernel4Ideal.S512x2x128 Cert.Kernel4Ideal.S512x1x128
  ∧ IdealRules.bf16_pair.Statement Cert.Kernel4Ideal.S4096x2x128 Cert.Kernel4Ideal.S4096x1x128
  ∧ IdealRules.bf16_pair.Statement Cert.Kernel4Ideal.S8192x128 Cert.Kernel4Ideal.S4096x128

def algebraic_Kernel4Ideal_Reference4Ideal_pre_finite_outproj [hKernel4Ideal : Cert.Kernel4Ideal.Facts] [hReference4Ideal : Cert.Reference4Ideal.Facts] [hPre_finite_outproj : Cert.Pre_finite_outproj.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_outproj m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v42) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qkv : Cert.Pre_finite_qkv.Facts) (hPre_finite_outproj : Cert.Pre_finite_outproj.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_outproj (hKernel4Ideal := hKernel4Ideal) (hPre_finite_outproj := hPre_finite_outproj)
    ∧ quiescent_Reference4Ideal (hReference4Ideal := hReference4Ideal)
    ∧ quiescent_Reference4Ideal_pre_finite_outproj (hReference4Ideal := hReference4Ideal) (hPre_finite_outproj := hPre_finite_outproj)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_outproj (hKernel4Ideal := hKernel4Ideal) (hReference4Ideal := hReference4Ideal) (hPre_finite_outproj := hPre_finite_outproj)
    ∧ preserves_Kernel5_Kernel5Ideal
    ∧ algebraic_Kernel5Ideal_Reference5Ideal (hKernel5Ideal := hKernel5Ideal) (hReference5Ideal := hReference5Ideal)
-- ==== Pre_finite_outproj.lean ====
abbrev S16384x2048 : Shape := ⟨2, ![16384, 2048]⟩
abbrev S8x2048x2048 : Shape := ⟨3, ![8, 2048, 2048]⟩
abbrev S8x12288 : Shape := ⟨2, ![8, 12288]⟩
abbrev S1x2048 : Shape := ⟨2, ![1, 2048]⟩
abbrev S1x2048x2048 : Shape := ⟨3, ![1, 2048, 2048]⟩
abbrev S1x2048x64 : Shape := ⟨3, ![1, 2048, 64]⟩
abbrev S8x4096 : Shape := ⟨2, ![8, 4096]⟩
abbrev S_ : Shape := ⟨0, ![]⟩

class Facts : Prop where
  slices_S8x12288_S8x4096_0_6144 : S8x12288.Slices ![0, 6144] S8x4096
  bcast_S_S8x4096 : S_.BroadcastsInDim S8x4096 (![] : Fin 0 → Fin S8x4096.rank)
  bcast_S_S1x2048 : S_.BroadcastsInDim S1x2048 (![] : Fin 0 → Fin S1x2048.rank)
  bcast_S_S1x2048x64 : S_.BroadcastsInDim S1x2048x64 (![] : Fin 0 → Fin S1x2048x64.rank)

variable [Facts]

def fn {F : FTy → Type} [FloatOps F] (main_arg0 : FVec F S16384x2048 .bf16) (main_arg1 : FVec F S8x2048x2048 .f32) (main_arg2 : FVec F S8x12288 .f32) (main_arg3 : FVec F S1x2048 .f32) (main_arg4 : FVec F S1x2048x2048 .f32) (main_arg5 : FVec F S1x2048x64 .f32) : IVec S8x4096 1 × IVec S1x2048 1 × IVec S1x2048x64 1 :=
  let main_v0 : FVec F S8x4096 .f32 := (extractStridedSlice S8x4096 ![0, 6144] · slices_S8x12288_S8x4096_0_6144) main_arg2
  let main_v1 : FVec F S8x4096 .f32 := Host.absf main_v0
  let main_cst : FVec F S_ .f32 := constant S_ .f32 0x7F800000#32
  let main_v2 : FVec F S8x4096 .f32 := broadcastInDim S8x4096 ![] bcast_S_S8x4096 main_cst
  let main_v3 : IVec S8x4096 1 := cmpf .olt main_v1 main_v2
  let main_v4 : FVec F S1x2048 .f32 := Host.absf main_arg3
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_v7 : FVec F S1x2048x64 .f32 := Host.absf main_arg5
  let main_cst_1 : FVec F S_ .f32 := constant S_ .f32 0x7F800000#32
  let main_v8 : FVec F S1x2048x64 .f32 := broadcastInDim S1x2048x64 ![] bcast_S_S1x2048x64 main_cst_1
  let main_v9 : IVec S1x2048x64 1 := cmpf .olt main_v7 main_v8
  (main_v3, main_v6, main_v9)
-- ==== Pre_finite_qkv.lean ====
abbrev S16384x11264 : Shape := ⟨2, ![16384, 11264]⟩
abbrev S1x8 : Shape := ⟨2, ![1, 8]⟩
abbrev S1x1024 : Shape := ⟨2, ![1, 1024]⟩
abbrev S16384x3072 : Shape := ⟨2, ![16384, 3072]⟩
abbrev S_ : Shape := ⟨0, ![]⟩

class Facts : Prop where
  slices_S16384x11264_S16384x3072_0_0 : S16384x11264.Slices ![0, 0] S16384x3072
  bitsLt_bf16_f32 : FTy.bits .bf16 < FTy.bits .f32
  bcast_S_S16384x3072 : S_.BroadcastsInDim S16384x3072 (![] : Fin 0 → Fin S16384x3072.rank)

variable [Facts]

def fn {F : FTy → Type} [FloatOps F] (main_arg0 : FVec F S16384x11264 .bf16) (main_arg1 : FVec F S1x8 .f32) (main_arg2 : FVec F S1x8 .f32) (main_arg3 : FVec F S1x1024 .f32) : IVec S16384x3072 1 :=
  let main_v0 : FVec F S16384x3072 .bf16 := (extractStridedSlice S16384x3072 ![0, 0] · slices_S16384x11264_S16384x3072_0_0) main_arg0
  let main_v1 : FVec F S16384x3072 .f32 := (extf .f32 · bitsLt_bf16_f32) main_v0
  let main_v2 : FVec F S16384x3072 .f32 := Host.absf main_v1
  let main_cst : FVec F S_ .f32 := constant S_ .f32 0x7F800000#32
  let main_v3 : FVec F S16384x3072 .f32 := broadcastInDim S16384x3072 ![] bcast_S_S16384x3072 main_cst
  let main_v4 : IVec S16384x3072 1 := cmpf .olt main_v2 main_v3
  main_v4
-- ==== Kernel.lean ====
abbrev S16384x11264 : Shape := ⟨2, ![16384, 11264]⟩
abbrev S1x8 : Shape := ⟨2, ![1, 8]⟩
abbrev S1x1024 : Shape := ⟨2, ![1, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S8x1x1 : Shape := ⟨3, ![8, 1, 1]⟩
abbrev S8x1x128 : Shape := ⟨3, ![8, 1, 128]⟩
abbrev S1024 : Shape := ⟨1, ![1024]⟩
abbrev S16384x1024 : Shape := ⟨2, ![16384, 1024]⟩
abbrev S1x1x128 : Shape := ⟨3, ![1, 1, 128]⟩
abbrev S256x256 : Shape := ⟨2, ![256, 256]⟩
abbrev S256x128 : Shape := ⟨2, ![256, 128]⟩
abbrev S8x128 : Shape := ⟨2, ![8, 128]⟩
abbrev S1x128 : Shape := ⟨2, ![1, 128]⟩
abbrev S1x256 : Shape := ⟨2, ![1, 256]⟩
abbrev S128x128 : Shape := ⟨2, ![128, 128]⟩
abbrev S128x256 : Shape := ⟨2, ![128, 256]⟩
abbrev S256 : Shape := ⟨1, ![256]⟩
abbrev S256x1 : Shape := ⟨2, ![256, 1]⟩

abbrev nBuf : Space → Nat
  | .hbm => 32
  | .vmem => 27
  | .smem => 0
  | _ => 0

abbrev bufTy : (tb : Table) → Fin (tcTables nBuf tb) → BufTy
  | .hbm, ⟨0, _⟩ => ⟨S16384x11264, .bf16⟩
  | .hbm, ⟨1, _⟩ => ⟨S1x8, .f32⟩
  | .hbm, ⟨2, _⟩ => ⟨S1x8, .f32⟩
  | .hbm, ⟨3, _⟩ => ⟨S1x1024, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S8, .f32⟩
  | .hbm, ⟨24, _⟩ => ⟨S8x1x1, .f32⟩
  | .hbm, ⟨25, _⟩ => ⟨S8x1x128, .f32⟩
  | .hbm, ⟨26, _⟩ => ⟨S8, .f32⟩
  | .hbm, ⟨27, _⟩ => ⟨S8x1x1, .f32⟩
  | .hbm, ⟨28, _⟩ => ⟨S8x1x128, .f32⟩
  | .hbm, ⟨29, _⟩ => ⟨S1024, .f32⟩
  | .hbm, ⟨30, _⟩ => ⟨S8x1x128, .f32⟩
  | .hbm, ⟨31, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S2048x128, .bf16⟩
  | .local _ .vmem, ⟨17, _⟩ => ⟨S2048x128, .bf16⟩
  | .local _ .vmem, ⟨18, _⟩ => ⟨S256x256, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S8x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x11264 : Shape := ⟨2, ![16384, 11264]⟩
abbrev S1x8 : Shape := ⟨2, ![1, 8]⟩
abbrev S1x1024 : Shape := ⟨2, ![1, 1024]⟩
abbrev S8x2048x11264 : Shape := ⟨3, ![8, 2048, 11264]⟩
abbrev S8x2048x1024 : Shape := ⟨3, ![8, 2048, 1024]⟩
abbrev S8x2048x8x128 : Shape := ⟨4, ![8, 2048, 8, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S8x2048x8x64 : Shape := ⟨4, ![8, 2048, 8, 64]⟩
abbrev S1x2048x1x64 : Shape := ⟨4, ![1, 2048, 1, 64]⟩
abbrev S8 : Shape := ⟨1, ![8]⟩
abbrev S1x2048 : Shape := ⟨2, ![1, 2048]⟩
abbrev S2048x2048 : Shape := ⟨2, ![2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S8x8x2048x2048 : Shape := ⟨4, ![8, 8, 2048, 2048]⟩
abbrev S1x8x2048x2048 : Shape := ⟨4, ![1, 8, 2048, 2048]⟩
abbrev S8x8x128x2048 : Shape := ⟨4, ![8, 8, 128, 2048]⟩
abbrev S1024 : Shape := ⟨1, ![1024]⟩
abbrev S8x128 : Shape := ⟨2, ![8, 128]⟩
abbrev S8x2048x8 : Shape := ⟨3, ![8, 2048, 8]⟩
abbrev S8x2048x8x1 : Shape := ⟨4, ![8, 2048, 8, 1]⟩
abbrev S1x1x8x128 : Shape := ⟨4, ![1, 1, 8, 128]⟩
abbrev S16384x1024 : Shape := ⟨2, ![16384, 1024]⟩

abbrev nBuf : Space → Nat
  | .hbm => 187
  | .vmem => 0
  | .smem => 0
  | _ => 0

abbrev hbmTy0_0 (i : Nat) : BufTy := match i % 128 with
  | 0 => ⟨S16384x11264, .bf16⟩
  | 1 => ⟨S1x8, .f32⟩
  | 2 => ⟨S1x8, .f32⟩
  | 3 => ⟨S1x1024, .f32⟩
  | 4 => ⟨S16384x11264, .f32⟩
  | 5 => ⟨S8x2048x11264, .f32⟩
  | 6 => ⟨S8x2048x1024, .f32⟩
  | 7 => ⟨S8x2048x1024, .f32⟩
  | 8 => ⟨S8x2048x1024, .f32⟩
  | 9 => ⟨S8x2048x1024, .f32⟩
  | 10 => ⟨S8x2048x8x128, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S2048, .f32⟩
  | 20 => ⟨S2048x1, .f32⟩
  | 21 => ⟨S1x64, .f32⟩
  | 22 => ⟨S2048x64, .f32⟩
  | 23 => ⟨S2048x64, .f32⟩
  | 24 => ⟨S2048x64, .f32⟩
  | 25 => ⟨S2048x64, .f32⟩
  | 26 => ⟨S2048x1x64, .f32⟩
  | 27 => ⟨S2048x64, .f32⟩
  | 28 => ⟨S2048x1x64, .f32⟩
  | 29 => ⟨S8x2048x8x64, .f32⟩
  | 30 => ⟨S8x2048x8x64, .f32⟩
  | 31 => ⟨S1x2048x1x64, .f32⟩
  | 32 => ⟨S8x2048x8x64, .f32⟩
  | 33 => ⟨S8x2048x8x64, .f32⟩
  | 34 => ⟨S1x2048x1x64, .f32⟩
  | 35 => ⟨S8x2048x8x64, .f32⟩
  | 36 => ⟨S8x2048x8x64, .f32⟩
  | 37 => ⟨S8x2048x8x64, .f32⟩
  | 38 => ⟨S1x2048x1x64, .f32⟩
  | 39 => ⟨S8x2048x8x64, .f32⟩
  | 40 => ⟨S8x2048x8x64, .f32⟩
  | 41 => ⟨S1x2048x1x64, .f32⟩
  | 42 => ⟨S8x2048x8x64, .f32⟩
  | 43 => ⟨S8x2048x8x64, .f32⟩
  | 44 => ⟨S8x2048x8x64, .f32⟩
  | 45 => ⟨S8x2048x8x128, .f32⟩
  | 46 => ⟨S8x2048x8x128, .f32⟩
  | 47 => ⟨S64, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S2048, .f32⟩
  | 56 => ⟨S2048x1, .f32⟩
  | 57 => ⟨S1x64, .f32⟩
  | 58 => ⟨S2048x64, .f32⟩
  | 59 => ⟨S2048x64, .f32⟩
  | 60 => ⟨S2048x64, .f32⟩
  | 61 => ⟨S2048x64, .f32⟩
  | 62 => ⟨S2048x1x64, .f32⟩
  | 63 => ⟨S2048x64, .f32⟩
  | 64 => ⟨S2048x1x64, .f32⟩
  | 65 => ⟨S8x2048x8x64, .f32⟩
  | 66 => ⟨S8x2048x8x64, .f32⟩
  | 67 => ⟨S1x2048x1x64, .f32⟩
  | 68 => ⟨S8x2048x8x64, .f32⟩
  | 69 => ⟨S8x2048x8x64, .f32⟩
  | 70 => ⟨S1x2048x1x64, .f32⟩
  | 71 => ⟨S8x2048x8x64, .f32⟩
  | 72 => ⟨S8x2048x8x64, .f32⟩
  | 73 => ⟨S8x2048x8x64, .f32⟩
  | 74 => ⟨S1x2048x1x64, .f32⟩
  | 75 => ⟨S8x2048x8x64, .f32⟩
  | 76 => ⟨S8x2048x8x64, .f32⟩
  | 77 => ⟨S1x2048x1x64, .f32⟩
  | 78 => ⟨S8x2048x8x64, .f32⟩
  | 79 => ⟨S8x2048x8x64, .f32⟩
  | 80 => ⟨S8x2048x8x64, .f32⟩
  | 81 => ⟨S8x2048x8x128, .f32⟩
  | 82 => ⟨S_, .f32⟩
  | 83 => ⟨S8x2048x8x128, .f32⟩
  | 84 => ⟨S8x2048x8x128, .f32⟩
  | 85 => ⟨S8x2048x8x128, .f32⟩
  | 86 => ⟨S8, .f32⟩
  | 87 => ⟨S8, .f32⟩
  | 88 => ⟨S8, .f32⟩
  | 89 => ⟨S_, .f32⟩
  | 90 => ⟨S8, .f32⟩
  | 91 => ⟨S8, .f32⟩
  | 92 => ⟨S8, .f32⟩
  | 93 => ⟨S8, .f32⟩
  | 94 => ⟨S8, .i1⟩
  | 95 => ⟨S8, .f32⟩
  | 96 => ⟨S8, .f32⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S_, .f32⟩
  | 106 => ⟨S8, .f32⟩
  | 107 => ⟨S8, .f32⟩
  | 108 => ⟨S8, .f32⟩
  | 109 => ⟨S8, .f32⟩
  | 110 => ⟨S8, .i1⟩
  | 111 => ⟨S8, .f32⟩
  | 112 => ⟨S8, .f32⟩
  | 113 => ⟨S8, .f32⟩
  | 114 => ⟨S8, .f32⟩
  | 115 => ⟨S8, .f32⟩
  | 116 => ⟨S8, .f32⟩
  | 117 => ⟨S8, .f32⟩
  | 118 => ⟨S8, .f32⟩
  | 119 => ⟨S8, .f32⟩
  | 120 => ⟨S2048, .f32⟩
  | 121 => ⟨S2048x1, .f32⟩
  | 122 => ⟨S1x2048, .f32⟩
  | 123 => ⟨S2048x2048, .f32⟩
  | 124 => ⟨S2048x2048, .f32⟩
  | 125 => ⟨S2048x2048, .f32⟩
  | 126 => ⟨S_, .f32⟩
  | 127 => ⟨S2048x2048, .f32⟩
  | _ => ⟨S16384x11264, .bf16⟩

abbrev hbmTy0_1 (i : Nat) : BufTy := match i % 128 with
  | 0 => ⟨S2048x2048, .i1⟩
  | 1 => ⟨S8x1x1, .f32⟩
  | 2 => ⟨S_, .f32⟩
  | 3 => ⟨S2048x2048, .f32⟩
  | 4 => ⟨S2048x2048, .f32⟩
  | 5 => ⟨S1x2048x2048, .f32⟩
  | 6 => ⟨S8x2048x2048, .f32⟩
  | 7 => ⟨S8x2048x2048, .f32⟩
  | 8 => ⟨S8x2048x2048, .f32⟩
  | 9 => ⟨S8x2048x2048, .f32⟩
  | 10 => ⟨S8x1x1, .f32⟩
  | 11 => ⟨S2048x2048, .f32⟩
  | 12 => ⟨S_, .f32⟩
  | 13 => ⟨S2048x2048, .f32⟩
  | 14 => ⟨S2048x2048, .f32⟩
  | 15 => ⟨S1x2048x2048, .f32⟩
  | 16 => ⟨S8x2048x2048, .f32⟩
  | 17 => ⟨S8x2048x2048, .f32⟩
  | 18 => ⟨S8x2048x2048, .f32⟩
  | 19 => ⟨S8x2048x2048, .f32⟩
  | 20 => ⟨S8x2048x2048, .i1⟩
  | 21 => ⟨S8x2048x2048, .f32⟩
  | 22 => ⟨S8x8x2048x2048, .f32⟩
  | 23 => ⟨S1x8x2048x2048, .f32⟩
  | 24 => ⟨S8x8x2048x2048, .f32⟩
  | 25 => ⟨S8x8x2048x2048, .f32⟩
  | 26 => ⟨S8x8x128x2048, .f32⟩
  | 27 => ⟨S8x2048x8x128, .f32⟩
  | 28 => ⟨S1024, .f32⟩
  | 29 => ⟨S8x128, .f32⟩
  | 30 => ⟨S8x2048x8x128, .f32⟩
  | 31 => ⟨S_, .f32⟩
  | 32 => ⟨S8x2048x8, .f32⟩
  | 33 => ⟨S8x2048x8x1, .f32⟩
  | 34 => ⟨S_, .f32⟩
  | 35 => ⟨S8x2048x8x1, .f32⟩
  | 36 => ⟨S8x2048x8x1, .f32⟩
  | 37 => ⟨S_, .f32⟩
  | 38 => ⟨S8x2048x8x1, .f32⟩
  | 39 => ⟨S8x2048x8x1, .f32⟩
  | 40 => ⟨S8x2048x8x1, .f32⟩
  | 41 => ⟨S8x2048x8x128, .f32⟩
  | 42 => ⟨S8x2048x8x128, .f32⟩
  | 43 => ⟨S1x1x8x128, .f32⟩
  | 44 => ⟨S8x2048x8x128, .f32⟩
  | 45 => ⟨S8x2048x8x128, .f32⟩
  | 46 => ⟨S8x2048x1024, .f32⟩
  | 47 => ⟨S8x2048x1024, .f32⟩
  | 48 => ⟨S8x2048x1024, .f32⟩
  | 49 => ⟨S_, .f32⟩
  | 50 => ⟨S8x2048x1024, .f32⟩
  | 51 => ⟨S8x2048x1024, .f32⟩
  | 52 => ⟨S_, .f32⟩
  | 53 => ⟨S8x2048x1024, .f32⟩
  | 54 => ⟨S8x2048x1024, .f32⟩
  | 55 => ⟨S8x2048x1024, .f32⟩
  | 56 => ⟨S8x2048x1024, .f32⟩
  | 57 => ⟨S16384x1024, .f32⟩
  | 58 => ⟨S16384x1024, .bf16⟩
  | _ => ⟨S16384x11264, .bf16⟩

abbrev hbmTy (i : Nat) : BufTy := match i / 128 with
  | 0 => hbmTy0_0 i
  | 1 => hbmTy0_1 i
  | _ => ⟨S16384x11264, .bf16⟩

abbrev bufTy : (tb : Table) → Fin (tcTables nBuf tb) → BufTy
  | .hbm, ⟨i, _⟩ => hbmTy i
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_1 : Ref sig .tc := ⟨.hbm, 49, rfl⟩
abbrev main_v43 : Ref sig .tc := ⟨.hbm, 50, rfl⟩
abbrev main_v44 : Ref sig .tc := ⟨.hbm, 51, rfl⟩
abbrev main_cst_2 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_cst_3 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_call0_v0 : Ref sig .tc := ⟨.hbm, 88, rfl⟩
abbrev main_call0_call0_cst : Ref sig .tc := ⟨.hbm, 89, rfl⟩
abbrev main_call0_call0_v0 : Ref sig .tc := ⟨.hbm, 90, rfl⟩
abbrev main_call0_call0_v1 : Ref sig .tc := ⟨.hbm, 91, rfl⟩
abbrev main_call0_call0_v2 : Ref sig .tc := ⟨.hbm, 92, rfl⟩
abbrev main_call0_call0_v3 : Ref sig .tc := ⟨.hbm, 93, rfl⟩
abbrev main_call0_call0_v4 : Ref sig .tc := ⟨.hbm, 94, rfl⟩
abbrev main_call0_call0_v5 : Ref sig .tc := ⟨.hbm, 95, rfl⟩
abbrev main_call0_call0_v6 : Ref sig .tc := ⟨.hbm, 96, rfl⟩
abbrev main_call0_call0_v7 : Ref sig .tc := ⟨.hbm, 97, rfl⟩
abbrev main_call0_call0_v8 : Ref sig .tc := ⟨.hbm, 98, rfl⟩
abbrev main_call0_call0_v9 : Ref sig .tc := ⟨.hbm, 99, rfl⟩
abbrev main_call0_call0_v10 : Ref sig .tc := ⟨.hbm, 100, rfl⟩
abbrev main_call0_call0_v11 : Ref sig .tc := ⟨.hbm, 101, rfl⟩
abbrev main_call0_v1 : Ref sig .tc := ⟨.hbm, 102, rfl⟩
abbrev main_v79 : Ref sig .tc := ⟨.hbm, 103, rfl⟩
abbrev main_call1_v0 : Ref sig .tc := ⟨.hbm, 104, rfl⟩
abbrev main_call1_call0_cst : Ref sig .tc := ⟨.hbm, 105, rfl⟩
abbrev main_call1_call0_v0 : Ref sig .tc := ⟨.hbm, 106, rfl⟩
abbrev main_call1_call0_v1 : Ref sig .tc := ⟨.hbm, 107, rfl⟩
abbrev main_call1_call0_v2 : Ref sig .tc := ⟨.hbm, 108, rfl⟩
abbrev main_call1_call0_v3 : Ref sig .tc := ⟨.hbm, 109, rfl⟩
abbrev main_call1_call0_v4 : Ref sig .tc := ⟨.hbm, 110, rfl⟩
abbrev main_call1_call0_v5 : Ref sig .tc := ⟨.hbm, 111, rfl⟩
abbrev main_call1_call0_v6 : Ref sig .tc := ⟨.hbm, 112, rfl⟩
abbrev main_call1_call0_v7 : Ref sig .tc := ⟨.hbm, 113, rfl⟩
abbrev main_call1_call0_v8 : Ref sig .tc := ⟨.hbm, 114, rfl⟩
abbrev main_call1_call0_v9 : Ref sig .tc := ⟨.hbm, 115, rfl⟩
abbrev main_call1_call0_v10 : Ref sig .tc := ⟨.hbm, 116, rfl⟩
abbrev main_call1_call0_v11 : Ref sig .tc := ⟨.hbm, 117, rfl⟩
abbrev main_call1_v1 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_4 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_5 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_6 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_call2_v0 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_7 : Ref sig .tc := ⟨.hbm, 159, rfl⟩
abbrev main_v116 : Ref sig .tc := ⟨.hbm, 160, rfl⟩
abbrev main_v117 : Ref sig .tc := ⟨.hbm, 161, rfl⟩
abbrev main_cst_8 : Ref sig .tc := ⟨.hbm, 162, rfl⟩
abbrev main_v118 : Ref sig .tc := ⟨.hbm, 163, rfl⟩
abbrev main_v119 : Ref sig .tc := ⟨.hbm, 164, rfl⟩
abbrev main_cst_9 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_call3_v0 : Ref sig .tc := ⟨.hbm, 175, rfl⟩
abbrev main_call3_v1 : Ref sig .tc := ⟨.hbm, 176, rfl⟩
abbrev main_call3_cst : Ref sig .tc := ⟨.hbm, 177, rfl⟩
abbrev main_call3_v2 : Ref sig .tc := ⟨.hbm, 178, rfl⟩
abbrev main_call3_v3 : Ref sig .tc := ⟨.hbm, 179, rfl⟩
abbrev main_call3_cst_0 : Ref sig .tc := ⟨.hbm, 180, rfl⟩
abbrev main_call3_v4 : Ref sig .tc := ⟨.hbm, 181, rfl⟩
abbrev main_call3_v5 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩

abbrev nD : Nat := 1
abbrev τ : Topo := Topo.v7x

variable {F : FTy → Type} [FloatOps F]
-- ==== Kernel2.lean ====
abbrev S8x2048x2048 : Shape := ⟨3, ![8, 2048, 2048]⟩
abbrev S8x12288 : Shape := ⟨2, ![8, 12288]⟩
abbrev S1x2048 : Shape := ⟨2, ![1, 2048]⟩
abbrev S1x2048x11264 : Shape := ⟨3, ![1, 2048, 11264]⟩
abbrev S16384x2048 : Shape := ⟨2, ![16384, 2048]⟩
abbrev S8x6x2048 : Shape := ⟨3, ![8, 6, 2048]⟩
abbrev S2048 : Shape := ⟨1, ![2048]⟩
abbrev S2048x11264 : Shape := ⟨2, ![2048, 11264]⟩
abbrev S16384x11264 : Shape := ⟨2, ![16384, 11264]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S6x2048 : Shape := ⟨2, ![6, 2048]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S8x12288, .f32⟩
  | .hbm, ⟨2, _⟩ => ⟨S1x2048, .f32⟩
  | .hbm, ⟨3, _⟩ => ⟨S1x2048x11264, .f32⟩
  | .hbm, ⟨4, _⟩ => ⟨S16384x2048, .f32⟩
  | .hbm, ⟨5, _⟩ => ⟨S8x6x2048, .f32⟩
  | .hbm, ⟨6, _⟩ => ⟨S2048, .f32⟩
  | .hbm, ⟨7, _⟩ => ⟨S1x2048, .f32⟩
  | .hbm, ⟨8, _⟩ => ⟨S2048x11264, .f32⟩
  | .hbm, ⟨9, _⟩ => ⟨S16384x11264, .bf16⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .f32⟩
  | .local _ .vmem, ⟨6, _⟩ => ⟨S2048x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x2048x2048 : Shape := ⟨3, ![8, 2048, 2048]⟩
abbrev S8x12288 : Shape := ⟨2, ![8, 12288]⟩
abbrev S1x2048 : Shape := ⟨2, ![1, 2048]⟩
abbrev S1x2048x11264 : Shape := ⟨3, ![1, 2048, 11264]⟩
abbrev S8x1x12288 : Shape := ⟨3, ![8, 1, 12288]⟩
abbrev S8x1x2048 : Shape := ⟨3, ![8, 1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x11264 : Shape := ⟨2, ![2048, 11264]⟩
abbrev S8x2048x11264 : Shape := ⟨3, ![8, 2048, 11264]⟩
abbrev S16384x11264 : Shape := ⟨2, ![16384, 11264]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x12288, .f32⟩
  | .hbm, ⟨2, _⟩ => ⟨S1x2048, .f32⟩
  | .hbm, ⟨3, _⟩ => ⟨S1x2048x11264, .f32⟩
  | .hbm, ⟨4, _⟩ => ⟨S8x1x12288, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S2048x11264, .f32⟩
  | .hbm, ⟨36, _⟩ => ⟨S8x2048x11264, .f32⟩
  | .hbm, ⟨37, _⟩ => ⟨S16384x11264, .f32⟩
  | .hbm, ⟨38, _⟩ => ⟨S16384x11264, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel3.lean ====
abbrev S16384x1024 : Shape := ⟨2, ![16384, 1024]⟩
abbrev S16384x11264 : Shape := ⟨2, ![16384, 11264]⟩
abbrev S1x3x1024 : Shape := ⟨3, ![1, 3, 1024]⟩
abbrev S1x1024x2048 : Shape := ⟨3, ![1, 1024, 2048]⟩
abbrev S3x1024 : Shape := ⟨2, ![3, 1024]⟩
abbrev S1024x2048 : Shape := ⟨2, ![1024, 2048]⟩
abbrev S16384x2048 : Shape := ⟨2, ![16384, 2048]⟩
abbrev S512x1024 : Shape := ⟨2, ![512, 1024]⟩
abbrev S16x1024 : Shape := ⟨2, ![16, 1024]⟩
abbrev S512x2048 : Shape := ⟨2, ![512, 2048]⟩
abbrev S1x1024 : Shape := ⟨2, ![1, 1024]⟩

abbrev nBuf : Space → Nat
  | .hbm => 11
  | .vmem => 29
  | .smem => 0
  | _ => 0

abbrev bufTy : (tb : Table) → Fin (tcTables nBuf tb) → BufTy
  | .hbm, ⟨0, _⟩ => ⟨S16384x1024, .bf16⟩
  | .hbm, ⟨1, _⟩ => ⟨S16384x11264, .bf16⟩
  | .hbm, ⟨2, _⟩ => ⟨S1x3x1024, .f32⟩
  | .hbm, ⟨3, _⟩ => ⟨S1x1024x2048, .f32⟩
  | .hbm, ⟨4, _⟩ => ⟨S1x1024x2048, .f32⟩
  | .hbm, ⟨5, _⟩ => ⟨S3x1024, .f32⟩
  | .hbm, ⟨6, _⟩ => ⟨S1024x2048, .f32⟩
  | .hbm, ⟨7, _⟩ => ⟨S1024x2048, .bf16⟩
  | .hbm, ⟨8, _⟩ => ⟨S1024x2048, .f32⟩
  | .hbm, ⟨9, _⟩ => ⟨S1024x2048, .bf16⟩
  | .hbm, ⟨10, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S3x1024, .f32⟩
  | .local _ .vmem, ⟨25, _⟩ => ⟨S1024x2048, .bf16⟩
  | .local _ .vmem, ⟨26, _⟩ => ⟨S1024x2048, .bf16⟩
  | .local _ .vmem, ⟨27, _⟩ => ⟨S512x2048, .bf16⟩
  | .local _ .vmem, ⟨28, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c5_i32 : BitVec 32 := 5#32
  let c0_i32 : BitVec 32 := 0#32
  ![v2.toNat, c5_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c6_i32 : BitVec 32 := 6#32
  let c0_i32 : BitVec 32 := 0#32
  ![v2.toNat, c6_i32.toNat]

def cc0_transform_8 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_9 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_10 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_11 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S16384x1024 : Shape := ⟨2, ![16384, 1024]⟩
abbrev S16384x11264 : Shape := ⟨2, ![16384, 11264]⟩
abbrev S1x3x1024 : Shape := ⟨3, ![1, 3, 1024]⟩
abbrev S1x1024x2048 : Shape := ⟨3, ![1, 1024, 2048]⟩
abbrev S8x2048x11264 : Shape := ⟨3, ![8, 2048, 11264]⟩
abbrev S8x2048x1024 : Shape := ⟨3, ![8, 2048, 1024]⟩
abbrev S8x2048x2048 : Shape := ⟨3, ![8, 2048, 2048]⟩
abbrev S1024x2048 : Shape := ⟨2, ![1024, 2048]⟩
abbrev S_ : Shape := ⟨0, ![]⟩
abbrev S8x2050x1024 : Shape := ⟨3, ![8, 2050, 1024]⟩
abbrev S1x1x1024 : Shape := ⟨3, ![1, 1, 1024]⟩
abbrev S1024 : Shape := ⟨1, ![1024]⟩
abbrev S16384x2048 : Shape := ⟨2, ![16384, 2048]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x11264, .bf16⟩
  | .hbm, ⟨2, _⟩ => ⟨S1x3x1024, .f32⟩
  | .hbm, ⟨3, _⟩ => ⟨S1x1024x2048, .f32⟩
  | .hbm, ⟨4, _⟩ => ⟨S1x1024x2048, .f32⟩
  | .hbm, ⟨5, _⟩ => ⟨S16384x11264, .f32⟩
  | .hbm, ⟨6, _⟩ => ⟨S8x2048x11264, .f32⟩
  | .hbm, ⟨7, _⟩ => ⟨S16384x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x2048, .f32⟩
  | .hbm, ⟨13, _⟩ => ⟨S8x2048x2048, .f32⟩
  | .hbm, ⟨14, _⟩ => ⟨S1024x2048, .f32⟩
  | .hbm, ⟨15, _⟩ => ⟨S8x2048x2048, .f32⟩
  | .hbm, ⟨16, _⟩ => ⟨S8x2048x1024, .f32⟩
  | .hbm, ⟨17, _⟩ => ⟨S_, .i32⟩
  | .hbm, ⟨18, _⟩ => ⟨S_, .f32⟩
  | .hbm, ⟨19, _⟩ => ⟨S8x2050x1024, .f32⟩
  | .hbm, ⟨20, _⟩ => ⟨S1x1x1024, .f32⟩
  | .hbm, ⟨21, _⟩ => ⟨S1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1x1x1024, .f32⟩
  | .hbm, ⟨37, _⟩ => ⟨S1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S1024x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S16384x2048, .f32⟩
  | .hbm, ⟨66, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_0 : Ref sig .tc := ⟨.hbm, 48, rfl⟩
abbrev main_v40 : Ref sig .tc := ⟨.hbm, 49, rfl⟩
abbrev main_v41 : Ref sig .tc := ⟨.hbm, 50, rfl⟩
abbrev main_cst_1 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_2 : Ref sig .tc := ⟨.hbm, 57, rfl⟩
abbrev main_v47 : Ref sig .tc := ⟨.hbm, 58, rfl⟩
abbrev main_v48 : Ref sig .tc := ⟨.hbm, 59, rfl⟩
abbrev main_cst_3 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Kernel4.lean ====
abbrev S16384x2048 : Shape := ⟨2, ![16384, 2048]⟩
abbrev S8x2048x2048 : Shape := ⟨3, ![8, 2048, 2048]⟩
abbrev S8x12288 : Shape := ⟨2, ![8, 12288]⟩
abbrev S1x2048 : Shape := ⟨2, ![1, 2048]⟩
abbrev S1x2048x2048 : Shape := ⟨3, ![1, 2048, 2048]⟩
abbrev S1x2048x64 : Shape := ⟨3, ![1, 2048, 64]⟩
abbrev S8x6x2048 : Shape := ⟨3, ![8, 6, 2048]⟩
abbrev S2048 : Shape := ⟨1, ![2048]⟩
abbrev S2048x2048 : Shape := ⟨2, ![2048, 2048]⟩
abbrev S2048x64 : Shape := ⟨2, ![2048, 64]⟩
abbrev S64x2048 : Shape := ⟨2, ![64, 2048]⟩
abbrev S262144x128 : Shape := ⟨2, ![262144, 128]⟩
abbrev S64x16384 : Shape := ⟨2, ![64, 16384]⟩
abbrev S512x2048 : Shape := ⟨2, ![512, 2048]⟩
abbrev S1x6x2048 : Shape := ⟨3, ![1, 6, 2048]⟩
abbrev S8192x128 : Shape := ⟨2, ![8192, 128]⟩
abbrev S64x512 : Shape := ⟨2, ![64, 512]⟩
abbrev S4096x128 : Shape := ⟨2, ![4096, 128]⟩
abbrev S6x2048 : Shape := ⟨2, ![6, 2048]⟩
abbrev S512 : Shape := ⟨1, ![512]⟩
abbrev S512x1 : Shape := ⟨2, ![512, 1]⟩
abbrev S512x1024 : Shape := ⟨2, ![512, 1024]⟩
abbrev S512x128 : Shape := ⟨2, ![512, 128]⟩

abbrev nBuf : Space → Nat
  | .hbm => 17
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S8x2048x2048, .f32⟩
  | .hbm, ⟨2, _⟩ => ⟨S8x12288, .f32⟩
  | .hbm, ⟨3, _⟩ => ⟨S1x2048, .f32⟩
  | .hbm, ⟨4, _⟩ => ⟨S1x2048x2048, .f32⟩
  | .hbm, ⟨5, _⟩ => ⟨S1x2048x64, .f32⟩
  | .hbm, ⟨6, _⟩ => ⟨S16384x2048, .f32⟩
  | .hbm, ⟨7, _⟩ => ⟨S8x6x2048, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S2048x2048, .bf16⟩
  | .hbm, ⟨12, _⟩ => ⟨S2048x64, .f32⟩
  | .hbm, ⟨13, _⟩ => ⟨S64x2048, .f32⟩
  | .hbm, ⟨14, _⟩ => ⟨S16384x2048, .f32⟩
  | .hbm, ⟨15, _⟩ => ⟨S262144x128, .bf16⟩
  | .hbm, ⟨16, _⟩ => ⟨S64x16384, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S2048x2048, .bf16⟩
  | .local _ .vmem, ⟨8, _⟩ => ⟨S64x2048, .f32⟩
  | .local _ .vmem, ⟨9, _⟩ => ⟨S512x2048, .f32⟩
  | .local _ .vmem, ⟨10, _⟩ => ⟨S512x2048, .f32⟩
  | .local _ .vmem, ⟨11, _⟩ => ⟨S8192x128, .bf16⟩
  | .local _ .vmem, ⟨12, _⟩ => ⟨S8192x128, .bf16⟩
  | .local _ .vmem, ⟨13, _⟩ => ⟨S64x512, .f32⟩
  | .local _ .vmem, ⟨14, _⟩ => ⟨S64x512, .f32⟩
  | .local _ .vmem, ⟨15, _⟩ => ⟨S4096x128, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel4Ideal.lean ====
abbrev S4096x2x128 : Shape := ⟨3, ![4096, 2, 128]⟩
abbrev S4096x1x128 : Shape := ⟨3, ![4096, 1, 128]⟩
abbrev S512x2x128 : Shape := ⟨3, ![512, 2, 128]⟩
abbrev S512x1x128 : Shape := ⟨3, ![512, 1, 128]⟩
  | .local _ .vmem, ⟨15, _⟩ => ⟨S4096x2x128, .bf16⟩
variable {F : FTy → Type} [FloatOps F]
-- ==== Reference4Ideal.lean ====
abbrev S16384x2048 : Shape := ⟨2, ![16384, 2048]⟩
abbrev S8x2048x2048 : Shape := ⟨3, ![8, 2048, 2048]⟩
abbrev S8x12288 : Shape := ⟨2, ![8, 12288]⟩
abbrev S1x2048 : Shape := ⟨2, ![1, 2048]⟩
abbrev S1x2048x2048 : Shape := ⟨3, ![1, 2048, 2048]⟩
abbrev S1x2048x64 : Shape := ⟨3, ![1, 2048, 64]⟩
abbrev S8x1x12288 : Shape := ⟨3, ![8, 1, 12288]⟩
abbrev S8x1x2048 : Shape := ⟨3, ![8, 1, 2048]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x64 : Shape := ⟨2, ![2048, 64]⟩
abbrev S16384x64 : Shape := ⟨2, ![16384, 64]⟩
abbrev S16384x2x8x128 : Shape := ⟨4, ![16384, 2, 8, 128]⟩
abbrev S16384x8x2x128 : Shape := ⟨4, ![16384, 8, 2, 128]⟩
abbrev S262144x128 : Shape := ⟨2, ![262144, 128]⟩
abbrev S64x16384 : Shape := ⟨2, ![64, 16384]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S8x2048x2048, .f32⟩
  | .hbm, ⟨2, _⟩ => ⟨S8x12288, .f32⟩
  | .hbm, ⟨3, _⟩ => ⟨S1x2048, .f32⟩
  | .hbm, ⟨4, _⟩ => ⟨S1x2048x2048, .f32⟩
  | .hbm, ⟨5, _⟩ => ⟨S1x2048x64, .f32⟩
  | .hbm, ⟨6, _⟩ => ⟨S8x1x12288, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S16384x2048, .f32⟩
  | .hbm, ⟨14, _⟩ => ⟨S8x2048x2048, .f32⟩
  | .hbm, ⟨15, _⟩ => ⟨S2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S1x1x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x1x2048, .f32⟩
  | .hbm, ⟨39, _⟩ => ⟨S8x1x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S16384x2048, .f32⟩
  | .hbm, ⟨45, _⟩ => ⟨S2048x64, .f32⟩
  | .hbm, ⟨46, _⟩ => ⟨S16384x64, .f32⟩
  | .hbm, ⟨47, _⟩ => ⟨S16384x2x8x128, .f32⟩
  | .hbm, ⟨48, _⟩ => ⟨S16384x8x2x128, .f32⟩
  | .hbm, ⟨49, _⟩ => ⟨S262144x128, .f32⟩
  | .hbm, ⟨50, _⟩ => ⟨S16384x2048, .f32⟩
  | .hbm, ⟨51, _⟩ => ⟨S262144x128, .bf16⟩
  | .hbm, ⟨52, _⟩ => ⟨S64x16384, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Kernel5.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S16x2048 : Shape := ⟨2, ![16, 2048]⟩
abbrev S2048x12288 : Shape := ⟨2, ![2048, 12288]⟩
abbrev S12288 : Shape := ⟨1, ![12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩
abbrev S8x12288 : Shape := ⟨2, ![8, 12288]⟩

abbrev nBuf : Space → Nat
  | .hbm => 11
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S2048x12288, .f32⟩
  | .hbm, ⟨7, _⟩ => ⟨S12288, .f32⟩
  | .hbm, ⟨8, _⟩ => ⟨S1x12288, .f32⟩
  | .hbm, ⟨9, _⟩ => ⟨S16x12288, .f32⟩
  | .hbm, ⟨10, _⟩ => ⟨S8x12288, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Ret.Runs.lean ====
/- Retention: the body's memrefs at a grid point, and the condition that picks a head's first point. -/
module

public import proofs.«01_k».proof.Proof.Gen.KernelIdeal.Frame
public import proofs.«01_k».proof.Proof.Gen.KernelIdeal.Skeleton

@[expose] public section

set_option maxRecDepth 65536

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: this is the head's first batch row. -/
abbrev cond0_0 (i : grid0.Coords) : Prop := (Scalar.cmpi .ne (Scalar.extui (Scalar.cmpi .eq (BitVec.ofNat 32 (i 1).val) 0#32)) 0#32) = 1#1

/-- It holds at every eighth point. -/
theorem hcond0_0 : ∀ t : Fin cfg0.N, cond0_0 (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [cond0_0, e1]
    word_cmp
   : ∀ t : Fin grid0.N, cond0_0 (grid0.coords t) ↔ t.val % 8 = 0)

abbrev ms0_0 (t : Fin cfg0.N) : Memref sig .tc .vmem S2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x128 .bf16 := win0_9.stage (cfg0.slots t 9)
abbrev hs0_9 (t : Fin cfg0.N) : (ms0_9 t).IsWhole := hstage0_9 ((cfg0.slots t 9).cast nbuf0_9)
abbrev scM0 : Memref sig .tc .vmem S256x256 .f32 := Memref.whole cc0_scratch0
abbrev hsc0 : scM0.IsWhole := Memref.isWhole_whole _
abbrev scM1 : Memref sig .tc .vmem S256x128 .f32 := Memref.whole cc0_scratch1
abbrev hsc1 : scM1.IsWhole := Memref.isWhole_whole _
abbrev scM2 : Memref sig .tc .vmem S256x128 .f32 := Memref.whole cc0_scratch2
abbrev hsc2 : scM2.IsWhole := Memref.isWhole_whole _
abbrev scM3 : Memref sig .tc .vmem S256x128 .f32 := Memref.whole cc0_scratch3
abbrev hsc3 : scM3.IsWhole := Memref.isWhole_whole _
abbrev scM4 : Memref sig .tc .vmem S256x128 .f32 := Memref.whole cc0_scratch4
abbrev hsc4 : scM4.IsWhole := Memref.isWhole_whole _
abbrev scM5 : Memref sig .tc .vmem S8x128 .f32 := Memref.whole cc0_scratch5
abbrev hsc5 : scM5.IsWhole := Memref.isWhole_whole _
abbrev scM6 : Memref sig .tc .vmem S2048x128 .f32 := Memref.whole cc0_scratch6
abbrev hsc6 : scM6.IsWhole := Memref.isWhole_whole _
abbrev scM7 : Memref sig .tc .vmem S2048x128 .f32 := Memref.whole cc0_scratch7
abbrev hsc7 : scM7.IsWhole := Memref.isWhole_whole _
abbrev scM8 : Memref sig .tc .vmem S2048x128 .f32 := Memref.whole cc0_scratch8
abbrev hsc8 : scM8.IsWhole := Memref.isWhole_whole _

/-- The region's scratch at anything, scratch by scratch. -/
theorem PhiA_eq (c : Dev nD) : (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d)) ∗ (∃ r, prngReg c r)) := by
  unfold Pipeline.ΦA; rw [scopedRest0_eq]; simp only [scM0, scM1, scM2, scM3, scM4, scM5, scM6, scM7, scM8, owns_whole]; try rfl

end Cert.Ret

end
-- ==== Proof.Ret.RunA.lean ====
/- Retention: the pieces the body leaves at the first point of a head. -/
module

public import proofs.«01_k».proof.Proof.Ret.Runs

@[expose] public section

set_option maxRecDepth 65536

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point of a head: it fills the head's tables. The pieces the body's stores leave, with the run that leaves them. -/
noncomputable def kernelRun_A (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    Σ' (L9 : List (View.Piece (Elt F) S2048x128 .bf16)) (LS0 : List (View.Piece (Elt F) S256x256 .f32)) (LS1 : List (View.Piece (Elt F) S256x128 .f32)) (LS2 : List (View.Piece (Elt F) S256x128 .f32)) (LS3 : List (View.Piece (Elt F) S256x128 .f32)) (LS4 : List (View.Piece (Elt F) S256x128 .f32)), { LS5 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, fun E K => ?run⟩
  case run =>
    simp only [cc0_retention_eq_skeleton]; unfold cc0_retention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]
    · iexists _, _; isplitr; swap; · iexact HS6
      ipureintro; exact rfl
    isplitl [HS7]
    · iexists _, _; isplitr; swap; · iexact HS7
      ipureintro; exact rfl
    iexists _, _; isplitr; swap; · iexact HS8
    ipureintro; exact rfl

end Cert.Ret

end
-- ==== Proof.Ret.Spec.lean ====
/- Retention: what one grid point computes, chunk by chunk of 256 rows: the rotated queries and keys, the scores inside
   the chunk, the two states carried across the chunks, and the norm and gate. -/
module

public import proofs.«01_k».proof.Proof.Gen.KernelIdeal.Launch
public import Idealize.ShloMosaic.Lib.Pipeline.FrameBody
public import Idealize.ShloMosaic.Lib.Ring
public import proofs.«01_k».proof.Proof.Gen.KernelIdeal.Skeleton

@[expose] public section

set_option maxRecDepth 65536

noncomputable section

namespace Cert.Ret

open Cert.KernelIdeal Cert.KernelIdeal.Gen
open Idealize.ShloMosaic Idealize.ShloMosaic.TcCoe

variable {F : FTy → Type} [FloatOps F]

/-- Chunk `i` of 256 rows fits in the sequence. -/
theorem rc_inb (i : Fin 8) : ∀ a : Fin 2, (![256 * i.val, 0] : Fin 2 → ℕ) a + S256x128.size a ≤ S2048x128.size a := by
  intro a
  have := i.isLt
  match a with
  | ⟨0, _⟩ => show 256 * i.val + 256 ≤ 2048; omega
  | ⟨1, _⟩ => show 0 + 128 ≤ 128; omega

/-- Rows `256 i` to `256 i + 255`. -/
abbrev rc (i : Fin 8) : Rect S2048x128 := Rect.unit (s := S2048x128) ![256 * i.val, 0] S256x128.size (rc_inb i)

/-- What the chunks of a point's blocks are. -/
structure Blocks (F : FTy → Type) where
  q : Fin 8 → Vec F S256x128 .bf16
  k : Fin 8 → Vec F S256x128 .bf16
  v : Fin 8 → Vec F S256x128 .bf16
  g : Fin 8 → Vec F S256x128 .bf16
  cs : Fin 8 → Vec F S256x128 .f32
  sn : Fin 8 → Vec F S256x128 .f32
  nw : Vec F S1x1x128 .f32

/-- The head's tables. -/
structure Tables (F : FTy → Type) where
  mask : Vec F S256x256 .f32
  qf : Vec F S256x128 .f32
  qb : Vec F S256x128 .f32
  kf : Vec F S256x128 .f32
  kb : Vec F S256x128 .f32
  df : Vec F S1x128 .f32
  db : Vec F S1x128 .f32

/-- The tables, from the head's two decays. -/
def tables (f b : Vec F S1x1x128 .f32) : Tables F where
  mask := k0_pay4 f b
  qf := k0_pay6 (k0_pay2 f)
  qb := k0_pay7 (k0_pay3 b)
  kf := k0_pay8 (k0_pay2 f)
  kb := k0_pay9 (k0_pay3 b)
  df := k0_pay10 (k0_pay2 f)
  db := k0_pay12 (k0_pay3 b) k0_pay11

variable (B : Blocks F) (T : Tables F)

def qr (i : Fin 8) : FVec F S256x128 .f32 := k0_pay15 (B.cs i) (B.sn i) (B.q i)

def kr (i : Fin 8) : FVec F S256x128 .f32 := k0_pay16 (B.cs i) (B.sn i) (B.k i)

/-- The scores inside the chunk. -/
def intra (i : Fin 8) : FVec F S256x128 .f32 := k0_pay51 (qr B i) (kr B i) T.mask (B.v i)

/-- One step of a carried state: the decayed state plus the chunk's own keys against its values. -/
def step (d : Vec F S1x128 .f32) (st : FVec F S128x128 .f32) (k w : Vec F S256x128 .f32) (v : Vec F S256x128 .bf16) :
    FVec F S128x128 .f32 := k0_pay80 d st k w v

def stF : ℕ → FVec F S128x128 .f32
  | 0 => broadcast S128x128 (Scalar.ofBits .f32 0x00000000#32 : F .f32)
  | n + 1 => step T.df (stF n) (kr B (Fin.ofNat 8 n)) T.kf (B.v (Fin.ofNat 8 n))

def stB : ℕ → FVec F S128x128 .f32
  | 0 => broadcast S128x128 (Scalar.ofBits .f32 0x00000000#32 : F .f32)
  | n + 1 => step T.db (stB n) (kr B (Fin.ofNat 8 (7 - n))) T.kb (B.v (Fin.ofNat 8 (7 - n)))

/-- The chunk's rows before the norm: the scores inside the chunk, the state of the chunks before it, the state of the chunks after it. -/
def acc (i : Fin 8) : FVec F S256x128 .f32 :=
  let a := intra B T i
  let a := if i.val = 0 then a else k0_pay79 (stF B T i.val) (qr B i) T.qf a
  if i.val = 7 then a else k0_pay79 (stB B T (7 - i.val)) (qr B i) T.qb a

def outC (i : Fin 8) : FVec F S256x128 .bf16 := k0_pay97 B.nw (acc B T i) (B.g i)

/-- The eight chunks as stores, the last first. -/
def outPieces : List (View.Piece (Elt F) S2048x128 .bf16) :=
  [⟨rc 7, outC B T 7⟩, ⟨rc 6, outC B T 6⟩, ⟨rc 5, outC B T 5⟩, ⟨rc 4, outC B T 4⟩,
    ⟨rc 3, outC B T 3⟩, ⟨rc 2, outC B T 2⟩, ⟨rc 1, outC B T 1⟩, ⟨rc 0, outC B T 0⟩]

/-- The chunks of a whole block. -/
abbrev ch {φ : EltTy} (x : Vec F S2048x128 φ) : Fin 8 → Vec F S256x128 φ := fun i => View.ld x (rc i)

/-- A point's blocks, chunk by chunk. -/
def blocks (x0 x1 x2 x3 : Vec F S2048x128 .bf16) (x4 x5 : Vec F S2048x128 .f32) (x8 : Vec F S1x1x128 .f32) : Blocks F where
  q := ch x0
  k := ch x1
  v := ch x2
  g := ch x3
  cs := ch x4
  sn := ch x5
  nw := x8

end Cert.Ret

end
-- ==== Proof.Ret.PiecesA.lean ====
/- Retention: what the pieces hold at the first point of a head. -/
module

public import proofs.«01_k».proof.Proof.Ret.RunA
public import proofs.«01_k».proof.Proof.Ret.Spec
public import Idealize.ShloMosaic.Lib.Pipeline.ReadBack

@[expose] public section

set_option maxRecDepth 65536

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The chunks the body loads. -/
def blA  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) : Blocks F where
  q := fun i => View.readAt (Elt F) arg2.view (rc i).toLoadRect (harg2.unread x0)
  k := fun i => View.readAt (Elt F) arg3.view (rc i).toLoadRect (harg3.unread x1)
  v := fun i => View.readAt (Elt F) arg4.view (rc i).toLoadRect (harg4.unread x2)
  g := fun i => View.readAt (Elt F) arg5.view (rc i).toLoadRect (harg5.unread x3)
  cs := fun i => View.readAt (Elt F) arg6.view (rc i).toLoadRect (harg6.unread x4)
  sn := fun i => View.readAt (Elt F) arg7.view (rc i).toLoadRect (harg7.unread x5)
  nw := View.readAt (Elt F) arg10.view (Rect.unit (s := S1x1x128) ![0, 0, 0] S1x1x128.size inb_S1x1x128_S1x1x128_0_0_0).toLoadRect (harg10.unread x8)

/-- The tables the body works with. -/
def tbA  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) : Tables F :=
  tables (View.readAt (Elt F) arg8.view (Rect.unit (s := S1x1x128) ![0, 0, 0] S1x1x128.size inb_S1x1x128_S1x1x128_0_0_0).toLoadRect (harg8.unread x6)) (View.readAt (Elt F) arg9.view (Rect.unit (s := S1x1x128) ![0, 0, 0] S1x1x128.size inb_S1x1x128_S1x1x128_0_0_0).toLoadRect (harg9.unread x7))

/-- The rotated queries and keys the body loads back. -/
theorem rot_A  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    kernelRun_A.sl.v195 c arg2 harg2 arg6 harg6 arg7 harg7 arg18 x0 x4 x5 = qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 0 ∧
    kernelRun_A.sl.v208 c arg2 harg2 arg6 harg6 arg7 harg7 arg18 x0 x4 x5 = qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 1 ∧
    kernelRun_A.sl.v221 c arg2 harg2 arg6 harg6 arg7 harg7 arg18 x0 x4 x5 = qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 2 ∧
    kernelRun_A.sl.v234 c arg2 harg2 arg6 harg6 arg7 harg7 arg18 x0 x4 x5 = qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 3 ∧
    kernelRun_A.sl.v247 c arg2 harg2 arg6 harg6 arg7 harg7 arg18 x0 x4 x5 = qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 4 ∧
    kernelRun_A.sl.v260 c arg2 harg2 arg6 harg6 arg7 harg7 arg18 x0 x4 x5 = qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 5 ∧
    kernelRun_A.sl.v273 c arg2 harg2 arg6 harg6 arg7 harg7 arg18 x0 x4 x5 = qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 6 ∧
    kernelRun_A.sl.v286 c arg2 harg2 arg6 harg6 arg7 harg7 arg18 x0 x4 x5 = qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 7 ∧
    kernelRun_A.sl.v197 c arg3 harg3 arg6 harg6 arg7 harg7 arg19 x1 x4 x5 = kr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 0 ∧
    kernelRun_A.sl.v210 c arg3 harg3 arg6 harg6 arg7 harg7 arg19 x1 x4 x5 = kr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 1 ∧
    kernelRun_A.sl.v223 c arg3 harg3 arg6 harg6 arg7 harg7 arg19 x1 x4 x5 = kr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 2 ∧
    kernelRun_A.sl.v236 c arg3 harg3 arg6 harg6 arg7 harg7 arg19 x1 x4 x5 = kr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 3 ∧
    kernelRun_A.sl.v249 c arg3 harg3 arg6 harg6 arg7 harg7 arg19 x1 x4 x5 = kr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 4 ∧
    kernelRun_A.sl.v262 c arg3 harg3 arg6 harg6 arg7 harg7 arg19 x1 x4 x5 = kr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 5 ∧
    kernelRun_A.sl.v275 c arg3 harg3 arg6 harg6 arg7 harg7 arg19 x1 x4 x5 = kr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 6 ∧
    kernelRun_A.sl.v288 c arg3 harg3 arg6 harg6 arg7 harg7 arg19 x1 x4 x5 = kr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 7 := by
  refine ⟨?_, ?_, ?_, ?_, ?_, ?_, ?_, ?_, ?_, ?_, ?_, ?_, ?_, ?_, ?_, ?_⟩
  all_goals simp (disch := decide) only [kernelRun_A.sl.v195, kernelRun_A.sl.v208, kernelRun_A.sl.v221, kernelRun_A.sl.v234, kernelRun_A.sl.v247, kernelRun_A.sl.v260, kernelRun_A.sl.v273,
    kernelRun_A.sl.v286, kernelRun_A.sl.v197, kernelRun_A.sl.v210, kernelRun_A.sl.v223, kernelRun_A.sl.v236, kernelRun_A.sl.v249, kernelRun_A.sl.v262,
    kernelRun_A.sl.v275, kernelRun_A.sl.v288, kernelRun_A.sl.HS6_8, kernelRun_A.sl.HS7_8, ↓ View.readCov_skip, ↓ View.readCov_cons_toLoadRect]
  all_goals try simp only [kernelRun_A.sl.r, kernelRun_A.sl.r_1, kernelRun_A.sl.r_10, kernelRun_A.sl.r_11, kernelRun_A.sl.r_12, kernelRun_A.sl.r_13, kernelRun_A.sl.r_14,
    kernelRun_A.sl.r_15, kernelRun_A.sl.r_16, kernelRun_A.sl.r_17, kernelRun_A.sl.r_18, kernelRun_A.sl.r_19, kernelRun_A.sl.r_2, kernelRun_A.sl.r_20,
    kernelRun_A.sl.r_21, kernelRun_A.sl.r_22, kernelRun_A.sl.r_23, kernelRun_A.sl.r_24, kernelRun_A.sl.r_25, kernelRun_A.sl.r_26, kernelRun_A.sl.r_27,
    kernelRun_A.sl.r_28, kernelRun_A.sl.r_29, kernelRun_A.sl.r_3, kernelRun_A.sl.r_30, kernelRun_A.sl.r_31, kernelRun_A.sl.r_32, kernelRun_A.sl.r_33,
    kernelRun_A.sl.r_34, kernelRun_A.sl.r_35, kernelRun_A.sl.r_36, kernelRun_A.sl.r_37, kernelRun_A.sl.r_38, kernelRun_A.sl.r_39, kernelRun_A.sl.r_4,
    kernelRun_A.sl.r_5, kernelRun_A.sl.r_6, kernelRun_A.sl.r_7, kernelRun_A.sl.r_8, kernelRun_A.sl.r_9]
  all_goals first | done | rfl

/-- The tables the body loads back. -/
theorem tab_A  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    kernelRun_A.sl.v200 c arg8 harg8 arg9 harg9 arg12 x6 x7 = (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).mask ∧
    kernelRun_A.sl.v299 c arg8 harg8 arg9 harg9 arg17 x6 x7 = (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).df ∧
    kernelRun_A.sl.v304 c arg8 harg8 arg15 x6 = (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).kf ∧
    kernelRun_A.sl.v312 c arg8 harg8 arg13 x6 = (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).qf ∧
    kernelRun_A.sl.v448 c arg8 harg8 arg9 harg9 arg17 x6 x7 = (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).db ∧
    kernelRun_A.sl.v453 c arg9 harg9 arg16 x7 = (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).kb ∧
    kernelRun_A.sl.v461 c arg9 harg9 arg14 x7 = (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).qb := by
  obtain ⟨hv195, hv208, hv221, hv234, hv247, hv260, hv273, hv286, hv197, hv210, hv223, hv236, hv249, hv262, hv275, hv288⟩ := rot_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  refine ⟨?_, ?_, ?_, ?_, ?_, ?_, ?_⟩
  all_goals simp (disch := decide) only [kernelRun_A.sl.v200, kernelRun_A.sl.v299, kernelRun_A.sl.v304, kernelRun_A.sl.v312, kernelRun_A.sl.v448, kernelRun_A.sl.v453, kernelRun_A.sl.v461,
    kernelRun_A.sl.HS0_1, kernelRun_A.sl.HS1_1, kernelRun_A.sl.HS2_1, kernelRun_A.sl.HS3_1, kernelRun_A.sl.HS4_1, kernelRun_A.sl.HS5_2, ↓
    View.readCov_skip, ↓ View.readCov_cons_toLoadRect]
  all_goals try simp only [kernelRun_A.sl.r, kernelRun_A.sl.r_1, kernelRun_A.sl.r_10, kernelRun_A.sl.r_11, kernelRun_A.sl.r_12, kernelRun_A.sl.r_13, kernelRun_A.sl.r_14,
    kernelRun_A.sl.r_15, kernelRun_A.sl.r_16, kernelRun_A.sl.r_17, kernelRun_A.sl.r_18, kernelRun_A.sl.r_19, kernelRun_A.sl.r_2, kernelRun_A.sl.r_20,
    kernelRun_A.sl.r_21, kernelRun_A.sl.r_22, kernelRun_A.sl.r_23, kernelRun_A.sl.r_24, kernelRun_A.sl.r_25, kernelRun_A.sl.r_26, kernelRun_A.sl.r_27,
    kernelRun_A.sl.r_28, kernelRun_A.sl.r_29, kernelRun_A.sl.r_3, kernelRun_A.sl.r_30, kernelRun_A.sl.r_31, kernelRun_A.sl.r_32, kernelRun_A.sl.r_33,
    kernelRun_A.sl.r_34, kernelRun_A.sl.r_35, kernelRun_A.sl.r_36, kernelRun_A.sl.r_37, kernelRun_A.sl.r_38, kernelRun_A.sl.r_39, kernelRun_A.sl.r_4,
    kernelRun_A.sl.r_5, kernelRun_A.sl.r_6, kernelRun_A.sl.r_7, kernelRun_A.sl.r_8, kernelRun_A.sl.r_9, hv195, hv208, hv221, hv234, hv247, hv260, hv273,
    hv286, hv197, hv210, hv223, hv236, hv249, hv262, hv275, hv288]
  all_goals first | done | rfl

/-- What the forward pass finds in the accumulator. -/
theorem fwd_A  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    kernelRun_A.sl.v315 c arg2 harg2 arg3 harg3 arg4 harg4 arg6 harg6 arg7 harg7 arg8 harg8 arg9 harg9 arg12 arg18 arg19 arg20 x0 x1 x2 x4 x5 x6 x7 = intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 1 ∧
    kernelRun_A.sl.v336 c arg2 harg2 arg3 harg3 arg4 harg4 arg6 harg6 arg7 harg7 arg8 harg8 arg9 harg9 arg12 arg13 arg15 arg17 arg18 arg19 arg20 x0 x1 x2 x4 x5 x6 x7 = intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 2 ∧
    kernelRun_A.sl.v357 c arg2 harg2 arg3 harg3 arg4 harg4 arg6 harg6 arg7 harg7 arg8 harg8 arg9 harg9 arg12 arg13 arg15 arg17 arg18 arg19 arg20 x0 x1 x2 x4 x5 x6 x7 = intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 3 ∧
    kernelRun_A.sl.v378 c arg2 harg2 arg3 harg3 arg4 harg4 arg6 harg6 arg7 harg7 arg8 harg8 arg9 harg9 arg12 arg13 arg15 arg17 arg18 arg19 arg20 x0 x1 x2 x4 x5 x6 x7 = intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 4 ∧
    kernelRun_A.sl.v399 c arg2 harg2 arg3 harg3 arg4 harg4 arg6 harg6 arg7 harg7 arg8 harg8 arg9 harg9 arg12 arg13 arg15 arg17 arg18 arg19 arg20 x0 x1 x2 x4 x5 x6 x7 = intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 5 ∧
    kernelRun_A.sl.v420 c arg2 harg2 arg3 harg3 arg4 harg4 arg6 harg6 arg7 harg7 arg8 harg8 arg9 harg9 arg12 arg13 arg15 arg17 arg18 arg19 arg20 x0 x1 x2 x4 x5 x6 x7 = intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 6 ∧
    kernelRun_A.sl.v441 c arg2 harg2 arg3 harg3 arg4 harg4 arg6 harg6 arg7 harg7 arg8 harg8 arg9 harg9 arg12 arg13 arg15 arg17 arg18 arg19 arg20 x0 x1 x2 x4 x5 x6 x7 = intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 7 := by
  obtain ⟨hv195, hv208, hv221, hv234, hv247, hv260, hv273, hv286, hv197, hv210, hv223, hv236, hv249, hv262, hv275, hv288⟩ := rot_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  obtain ⟨hv200, hv299, hv304, hv312, hv448, hv453, hv461⟩ := tab_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  refine ⟨?_, ?_, ?_, ?_, ?_, ?_, ?_⟩
  all_goals simp (disch := decide) only [kernelRun_A.sl.v315, kernelRun_A.sl.v336, kernelRun_A.sl.v357, kernelRun_A.sl.v378, kernelRun_A.sl.v399, kernelRun_A.sl.v420, kernelRun_A.sl.v441,
    kernelRun_A.sl.HS8_8, kernelRun_A.sl.HS8_9, kernelRun_A.sl.HS8_10, kernelRun_A.sl.HS8_11, kernelRun_A.sl.HS8_12, kernelRun_A.sl.HS8_13,
    kernelRun_A.sl.HS8_14, ↓ View.readCov_skip, ↓ View.readCov_cons_toLoadRect]
  all_goals try simp only [kernelRun_A.sl.r, kernelRun_A.sl.r_1, kernelRun_A.sl.r_10, kernelRun_A.sl.r_11, kernelRun_A.sl.r_12, kernelRun_A.sl.r_13, kernelRun_A.sl.r_14,
    kernelRun_A.sl.r_15, kernelRun_A.sl.r_16, kernelRun_A.sl.r_17, kernelRun_A.sl.r_18, kernelRun_A.sl.r_19, kernelRun_A.sl.r_2, kernelRun_A.sl.r_20,
    kernelRun_A.sl.r_21, kernelRun_A.sl.r_22, kernelRun_A.sl.r_23, kernelRun_A.sl.r_24, kernelRun_A.sl.r_25, kernelRun_A.sl.r_26, kernelRun_A.sl.r_27,
    kernelRun_A.sl.r_28, kernelRun_A.sl.r_29, kernelRun_A.sl.r_3, kernelRun_A.sl.r_30, kernelRun_A.sl.r_31, kernelRun_A.sl.r_32, kernelRun_A.sl.r_33,
    kernelRun_A.sl.r_34, kernelRun_A.sl.r_35, kernelRun_A.sl.r_36, kernelRun_A.sl.r_37, kernelRun_A.sl.r_38, kernelRun_A.sl.r_39, kernelRun_A.sl.r_4,
    kernelRun_A.sl.r_5, kernelRun_A.sl.r_6, kernelRun_A.sl.r_7, kernelRun_A.sl.r_8, kernelRun_A.sl.r_9, hv195, hv208, hv221, hv234, hv247, hv260, hv273,
    hv286, hv197, hv210, hv223, hv236, hv249, hv262, hv275, hv288, hv200, hv299, hv304, hv312, hv448, hv453, hv461]
  all_goals first | done | rfl

/-- What the backward pass finds in the accumulator. -/
theorem bwd_A  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    kernelRun_A.sl.v464 c arg2 harg2 arg3 harg3 arg4 harg4 arg6 harg6 arg7 harg7 arg8 harg8 arg9 harg9 arg12 arg13 arg15 arg17 arg18 arg19 arg20 x0 x1 x2 x4 x5 x6 x7 = k0_pay79 (stF (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 6) (qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 6) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).qf (intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 6) ∧
    kernelRun_A.sl.v485 c arg2 harg2 arg3 harg3 arg4 harg4 arg6 harg6 arg7 harg7 arg8 harg8 arg9 harg9 arg12 arg13 arg14 arg15 arg16 arg17 arg18 arg19 arg20 x0 x1 x2 x4 x5 x6 x7 = k0_pay79 (stF (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 5) (qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 5) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).qf (intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 5) ∧
    kernelRun_A.sl.v506 c arg2 harg2 arg3 harg3 arg4 harg4 arg6 harg6 arg7 harg7 arg8 harg8 arg9 harg9 arg12 arg13 arg14 arg15 arg16 arg17 arg18 arg19 arg20 x0 x1 x2 x4 x5 x6 x7 = k0_pay79 (stF (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 4) (qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 4) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).qf (intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 4) ∧
    kernelRun_A.sl.v527 c arg2 harg2 arg3 harg3 arg4 harg4 arg6 harg6 arg7 harg7 arg8 harg8 arg9 harg9 arg12 arg13 arg14 arg15 arg16 arg17 arg18 arg19 arg20 x0 x1 x2 x4 x5 x6 x7 = k0_pay79 (stF (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 3) (qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 3) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).qf (intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 3) ∧
    kernelRun_A.sl.v548 c arg2 harg2 arg3 harg3 arg4 harg4 arg6 harg6 arg7 harg7 arg8 harg8 arg9 harg9 arg12 arg13 arg14 arg15 arg16 arg17 arg18 arg19 arg20 x0 x1 x2 x4 x5 x6 x7 = k0_pay79 (stF (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 2) (qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 2) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).qf (intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 2) ∧
    kernelRun_A.sl.v569 c arg2 harg2 arg3 harg3 arg4 harg4 arg6 harg6 arg7 harg7 arg8 harg8 arg9 harg9 arg12 arg13 arg14 arg15 arg16 arg17 arg18 arg19 arg20 x0 x1 x2 x4 x5 x6 x7 = k0_pay79 (stF (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 1) (qr (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 1) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).qf (intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 1) ∧
    kernelRun_A.sl.v590 c arg2 harg2 arg3 harg3 arg4 harg4 arg6 harg6 arg7 harg7 arg8 harg8 arg9 harg9 arg12 arg13 arg14 arg15 arg16 arg17 arg18 arg19 arg20 x0 x1 x2 x4 x5 x6 x7 = intra (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 0 := by
  obtain ⟨hv195, hv208, hv221, hv234, hv247, hv260, hv273, hv286, hv197, hv210, hv223, hv236, hv249, hv262, hv275, hv288⟩ := rot_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  obtain ⟨hv200, hv299, hv304, hv312, hv448, hv453, hv461⟩ := tab_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  obtain ⟨hv315, hv336, hv357, hv378, hv399, hv420, hv441⟩ := fwd_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  refine ⟨?_, ?_, ?_, ?_, ?_, ?_, ?_⟩
  all_goals simp (disch := decide) only [kernelRun_A.sl.v464, kernelRun_A.sl.v485, kernelRun_A.sl.v506, kernelRun_A.sl.v527, kernelRun_A.sl.v548, kernelRun_A.sl.v569, kernelRun_A.sl.v590,
    kernelRun_A.sl.HS8_8, kernelRun_A.sl.HS8_9, kernelRun_A.sl.HS8_10, kernelRun_A.sl.HS8_11, kernelRun_A.sl.HS8_12, kernelRun_A.sl.HS8_13,
    kernelRun_A.sl.HS8_14, kernelRun_A.sl.HS8_15, kernelRun_A.sl.HS8_16, kernelRun_A.sl.HS8_17, kernelRun_A.sl.HS8_18, kernelRun_A.sl.HS8_19,
    kernelRun_A.sl.HS8_20, kernelRun_A.sl.HS8_21, ↓ View.readCov_skip, ↓ View.readCov_cons_toLoadRect]
  all_goals try simp only [kernelRun_A.sl.r, kernelRun_A.sl.r_1, kernelRun_A.sl.r_10, kernelRun_A.sl.r_11, kernelRun_A.sl.r_12, kernelRun_A.sl.r_13, kernelRun_A.sl.r_14,
    kernelRun_A.sl.r_15, kernelRun_A.sl.r_16, kernelRun_A.sl.r_17, kernelRun_A.sl.r_18, kernelRun_A.sl.r_19, kernelRun_A.sl.r_2, kernelRun_A.sl.r_20,
    kernelRun_A.sl.r_21, kernelRun_A.sl.r_22, kernelRun_A.sl.r_23, kernelRun_A.sl.r_24, kernelRun_A.sl.r_25, kernelRun_A.sl.r_26, kernelRun_A.sl.r_27,
    kernelRun_A.sl.r_28, kernelRun_A.sl.r_29, kernelRun_A.sl.r_3, kernelRun_A.sl.r_30, kernelRun_A.sl.r_31, kernelRun_A.sl.r_32, kernelRun_A.sl.r_33,
    kernelRun_A.sl.r_34, kernelRun_A.sl.r_35, kernelRun_A.sl.r_36, kernelRun_A.sl.r_37, kernelRun_A.sl.r_38, kernelRun_A.sl.r_39, kernelRun_A.sl.r_4,
    kernelRun_A.sl.r_5, kernelRun_A.sl.r_6, kernelRun_A.sl.r_7, kernelRun_A.sl.r_8, kernelRun_A.sl.r_9, hv195, hv208, hv221, hv234, hv247, hv260, hv273,
    hv286, hv197, hv210, hv223, hv236, hv249, hv262, hv275, hv288, hv200, hv299, hv304, hv312, hv448, hv453, hv461, hv315, hv336, hv357, hv378, hv399,
    hv420, hv441]
  all_goals first | done | rfl

/-- What the norm finds in the accumulator. -/
theorem fin_A  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    kernelRun_A.sl.v599 c arg2 harg2 arg3 harg3 arg4 harg4 arg6 harg6 arg7 harg7 arg8 harg8 arg9 harg9 arg12 arg13 arg14 arg15 arg16 arg17 arg18 arg19 arg20 x0 x1 x2 x4 x5 x6 x7 = acc (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 0 ∧
    kernelRun_A.sl.v625 c arg2 harg2 arg3 harg3 arg4 harg4 arg6 harg6 arg7 harg7 arg8 harg8 arg9 harg9 arg12 arg13 arg14 arg15 arg16 arg17 arg18 arg19 arg20 x0 x1 x2 x4 x5 x6 x7 = acc (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 1 ∧
    kernelRun_A.sl.v651 c arg2 harg2 arg3 harg3 arg4 harg4 arg6 harg6 arg7 harg7 arg8 harg8 arg9 harg9 arg12 arg13 arg14 arg15 arg16 arg17 arg18 arg19 arg20 x0 x1 x2 x4 x5 x6 x7 = acc (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 2 ∧
    kernelRun_A.sl.v677 c arg2 harg2 arg3 harg3 arg4 harg4 arg6 harg6 arg7 harg7 arg8 harg8 arg9 harg9 arg12 arg13 arg14 arg15 arg16 arg17 arg18 arg19 arg20 x0 x1 x2 x4 x5 x6 x7 = acc (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 3 ∧
    kernelRun_A.sl.v703 c arg2 harg2 arg3 harg3 arg4 harg4 arg6 harg6 arg7 harg7 arg8 harg8 arg9 harg9 arg12 arg13 arg14 arg15 arg16 arg17 arg18 arg19 arg20 x0 x1 x2 x4 x5 x6 x7 = acc (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 4 ∧
    kernelRun_A.sl.v729 c arg2 harg2 arg3 harg3 arg4 harg4 arg6 harg6 arg7 harg7 arg8 harg8 arg9 harg9 arg12 arg13 arg14 arg15 arg16 arg17 arg18 arg19 arg20 x0 x1 x2 x4 x5 x6 x7 = acc (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 5 ∧
    kernelRun_A.sl.v755 c arg2 harg2 arg3 harg3 arg4 harg4 arg6 harg6 arg7 harg7 arg8 harg8 arg9 harg9 arg12 arg13 arg14 arg15 arg16 arg17 arg18 arg19 arg20 x0 x1 x2 x4 x5 x6 x7 = acc (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 6 ∧
    kernelRun_A.sl.v781 c arg2 harg2 arg3 harg3 arg4 harg4 arg6 harg6 arg7 harg7 arg8 harg8 arg9 harg9 arg12 arg13 arg14 arg15 arg16 arg17 arg18 arg19 arg20 x0 x1 x2 x4 x5 x6 x7 = acc (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) 7 := by
  obtain ⟨hv195, hv208, hv221, hv234, hv247, hv260, hv273, hv286, hv197, hv210, hv223, hv236, hv249, hv262, hv275, hv288⟩ := rot_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  obtain ⟨hv200, hv299, hv304, hv312, hv448, hv453, hv461⟩ := tab_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  obtain ⟨hv315, hv336, hv357, hv378, hv399, hv420, hv441⟩ := fwd_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  obtain ⟨hv464, hv485, hv506, hv527, hv548, hv569, hv590⟩ := bwd_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  refine ⟨?_, ?_, ?_, ?_, ?_, ?_, ?_, ?_⟩
  all_goals simp (disch := decide) only [kernelRun_A.sl.v599, kernelRun_A.sl.v625, kernelRun_A.sl.v651, kernelRun_A.sl.v677, kernelRun_A.sl.v703, kernelRun_A.sl.v729, kernelRun_A.sl.v755,
    kernelRun_A.sl.v781, kernelRun_A.sl.HS8_8, kernelRun_A.sl.HS8_9, kernelRun_A.sl.HS8_10, kernelRun_A.sl.HS8_11, kernelRun_A.sl.HS8_12,
    kernelRun_A.sl.HS8_13, kernelRun_A.sl.HS8_14, kernelRun_A.sl.HS8_15, kernelRun_A.sl.HS8_16, kernelRun_A.sl.HS8_17, kernelRun_A.sl.HS8_18,
    kernelRun_A.sl.HS8_19, kernelRun_A.sl.HS8_20, kernelRun_A.sl.HS8_21, kernelRun_A.sl.HS8_22, ↓ View.readCov_skip, ↓ View.readCov_cons_toLoadRect]
  all_goals try simp only [kernelRun_A.sl.r, kernelRun_A.sl.r_1, kernelRun_A.sl.r_10, kernelRun_A.sl.r_11, kernelRun_A.sl.r_12, kernelRun_A.sl.r_13, kernelRun_A.sl.r_14,
    kernelRun_A.sl.r_15, kernelRun_A.sl.r_16, kernelRun_A.sl.r_17, kernelRun_A.sl.r_18, kernelRun_A.sl.r_19, kernelRun_A.sl.r_2, kernelRun_A.sl.r_20,
    kernelRun_A.sl.r_21, kernelRun_A.sl.r_22, kernelRun_A.sl.r_23, kernelRun_A.sl.r_24, kernelRun_A.sl.r_25, kernelRun_A.sl.r_26, kernelRun_A.sl.r_27,
    kernelRun_A.sl.r_28, kernelRun_A.sl.r_29, kernelRun_A.sl.r_3, kernelRun_A.sl.r_30, kernelRun_A.sl.r_31, kernelRun_A.sl.r_32, kernelRun_A.sl.r_33,
    kernelRun_A.sl.r_34, kernelRun_A.sl.r_35, kernelRun_A.sl.r_36, kernelRun_A.sl.r_37, kernelRun_A.sl.r_38, kernelRun_A.sl.r_39, kernelRun_A.sl.r_4,
    kernelRun_A.sl.r_5, kernelRun_A.sl.r_6, kernelRun_A.sl.r_7, kernelRun_A.sl.r_8, kernelRun_A.sl.r_9, hv195, hv208, hv221, hv234, hv247, hv260, hv273,
    hv286, hv197, hv210, hv223, hv236, hv249, hv262, hv275, hv288, hv200, hv299, hv304, hv312, hv448, hv453, hv461, hv315, hv336, hv357, hv378, hv399,
    hv420, hv441, hv464, hv485, hv506, hv527, hv548, hv569, hv590]
  all_goals first | done | rfl

/-- The stores into the output's buffer are the eight chunks. -/
theorem out_A  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).1 = outPieces (blA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8) := by
  obtain ⟨hv599, hv625, hv651, hv677, hv703, hv729, hv755, hv781⟩ := fin_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8
  unfold kernelRun_A
  dsimp only
  simp only [kernelRun_A.sl.r, kernelRun_A.sl.r_1, kernelRun_A.sl.r_10, kernelRun_A.sl.r_11, kernelRun_A.sl.r_12, kernelRun_A.sl.r_13, kernelRun_A.sl.r_14,
    kernelRun_A.sl.r_15, kernelRun_A.sl.r_16, kernelRun_A.sl.r_17, kernelRun_A.sl.r_18, kernelRun_A.sl.r_19, kernelRun_A.sl.r_2, kernelRun_A.sl.r_20,
    kernelRun_A.sl.r_21, kernelRun_A.sl.r_22, kernelRun_A.sl.r_23, kernelRun_A.sl.r_24, kernelRun_A.sl.r_25, kernelRun_A.sl.r_26, kernelRun_A.sl.r_27,
    kernelRun_A.sl.r_28, kernelRun_A.sl.r_29, kernelRun_A.sl.r_3, kernelRun_A.sl.r_30, kernelRun_A.sl.r_31, kernelRun_A.sl.r_32, kernelRun_A.sl.r_33,
    kernelRun_A.sl.r_34, kernelRun_A.sl.r_35, kernelRun_A.sl.r_36, kernelRun_A.sl.r_37, kernelRun_A.sl.r_38, kernelRun_A.sl.r_39, kernelRun_A.sl.r_4,
    kernelRun_A.sl.r_5, kernelRun_A.sl.r_6, kernelRun_A.sl.r_7, kernelRun_A.sl.r_8, kernelRun_A.sl.r_9, hv599, hv625, hv651, hv677, hv703, hv729, hv755,
    hv781]
  rfl

/-- The store into table `mask`. -/
theorem table_mask  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).2.1 = [⟨(Rect.unit (s := S256x256) ![0, 0] S256x256.size inb_S256x256_S256x256_0_0), (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).mask⟩] := by
  unfold kernelRun_A
  rfl

/-- The store into table `qf`. -/
theorem table_qf  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).2.2.1 = [⟨(Rect.unit (s := S256x128) ![0, 0] S256x128.size inb_S256x128_S256x128_0_0), (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).qf⟩] := by
  unfold kernelRun_A
  rfl

/-- The store into table `qb`. -/
theorem table_qb  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).2.2.2.1 = [⟨(Rect.unit (s := S256x128) ![0, 0] S256x128.size inb_S256x128_S256x128_0_0), (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).qb⟩] := by
  unfold kernelRun_A
  rfl

/-- The store into table `kf`. -/
theorem table_kf  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).2.2.2.2.1 = [⟨(Rect.unit (s := S256x128) ![0, 0] S256x128.size inb_S256x128_S256x128_0_0), (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).kf⟩] := by
  unfold kernelRun_A
  rfl

/-- The store into table `kb`. -/
theorem table_kb  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).2.2.2.2.2.1 = [⟨(Rect.unit (s := S256x128) ![0, 0] S256x128.size inb_S256x128_S256x128_0_0), (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).kb⟩] := by
  unfold kernelRun_A
  rfl

/-- The stores into the two rows of decays. -/
theorem table_dec  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) :
    (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).2.2.2.2.2.2.1 = [⟨(Rect.unit (s := S8x128) ![1, 0] S1x128.size inb_S8x128_S1x128_1_0), (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).db⟩,
      ⟨(Rect.unit (s := S8x128) ![0, 0] S1x128.size inb_S8x128_S1x128_0_0), (tbA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8).df⟩] := by
  unfold kernelRun_A
  rfl

end Cert.Ret

end
-- ==== Proof.Ret.RunB.lean ====
/- Retention: the pieces the body leaves at a later point of a head. -/
module

public import proofs.«01_k».proof.Proof.Ret.Runs

@[expose] public section

set_option maxRecDepth 65536

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A later point of a head: it reads the head's tables. The pieces the body's stores leave, with the run that leaves them. -/
noncomputable def kernelRun_B (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : ¬cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) (xs0 : Vec F S256x256 .f32) (xs1 : Vec F S256x128 .f32) (xs2 : Vec F S256x128 .f32) (xs3 : Vec F S256x128 .f32) (xs4 : Vec F S256x128 .f32) (xs5 : Vec F S8x128 .f32) :
    { L9 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5 ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0_retention_eq_skeleton]; unfold cc0_retention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]
    · iexists _; isplitr; · ipureintro; exact harg15.read_unread _
      iexact HS3
    isplitl [HS4]
    · iexists _; isplitr; · ipureintro; exact harg16.read_unread _
      iexact HS4
    isplitl [HS5]
    · iexists _; isplitr; · ipureintro; exact harg17.read_unread _
      iexact HS5
    isplitl [HS6]
    · iexists _, _; isplitr; swap; · iexact HS6
      ipureintro; exact rfl
    isplitl [HS7]
    · iexists _, _; isplitr; swap; · iexact HS7
      ipureintro; exact rfl
    iexists _, _; isplitr; swap; · iexact HS8
    ipureintro; exact rfl

end Cert.Ret

end
-- ==== Proof.Ret.PiecesB.lean ====
/- Retention: what the pieces hold at a later point of a head. -/
module

public import proofs.«01_k».proof.Proof.Ret.RunB
public import proofs.«01_k».proof.Proof.Ret.Spec
public import Idealize.ShloMosaic.Lib.Pipeline.ReadBack

@[expose] public section

set_option maxRecDepth 65536

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The chunks the body loads. -/
def blB  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : ¬cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) (xs0 : Vec F S256x256 .f32) (xs1 : Vec F S256x128 .f32) (xs2 : Vec F S256x128 .f32) (xs3 : Vec F S256x128 .f32) (xs4 : Vec F S256x128 .f32) (xs5 : Vec F S8x128 .f32) : Blocks F where
  q := fun i => View.readAt (Elt F) arg2.view (rc i).toLoadRect (harg2.unread x0)
  k := fun i => View.readAt (Elt F) arg3.view (rc i).toLoadRect (harg3.unread x1)
  v := fun i => View.readAt (Elt F) arg4.view (rc i).toLoadRect (harg4.unread x2)
  g := fun i => View.readAt (Elt F) arg5.view (rc i).toLoadRect (harg5.unread x3)
  cs := fun i => View.readAt (Elt F) arg6.view (rc i).toLoadRect (harg6.unread x4)
  sn := fun i => View.readAt (Elt F) arg7.view (rc i).toLoadRect (harg7.unread x5)
  nw := View.readAt (Elt F) arg10.view (Rect.unit (s := S1x1x128) ![0, 0, 0] S1x1x128.size inb_S1x1x128_S1x1x128_0_0_0).toLoadRect (harg10.unread x8)

/-- The tables the body works with. -/
def tbB  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : ¬cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) (xs0 : Vec F S256x256 .f32) (xs1 : Vec F S256x128 .f32) (xs2 : Vec F S256x128 .f32) (xs3 : Vec F S256x128 .f32) (xs4 : Vec F S256x128 .f32) (xs5 : Vec F S8x128 .f32) : Tables F where
  mask := View.readAt (Elt F) arg12.view (Rect.unit (s := S256x256) ![0, 0] S256x256.size inb_S256x256_S256x256_0_0).toLoadRect (harg12.unread xs0)
  qf := View.readAt (Elt F) arg13.view (Rect.unit (s := S256x128) ![0, 0] S256x128.size inb_S256x128_S256x128_0_0).toLoadRect (harg13.unread xs1)
  qb := View.readAt (Elt F) arg14.view (Rect.unit (s := S256x128) ![0, 0] S256x128.size inb_S256x128_S256x128_0_0).toLoadRect (harg14.unread xs2)
  kf := View.readAt (Elt F) arg15.view (Rect.unit (s := S256x128) ![0, 0] S256x128.size inb_S256x128_S256x128_0_0).toLoadRect (harg15.unread xs3)
  kb := View.readAt (Elt F) arg16.view (Rect.unit (s := S256x128) ![0, 0] S256x128.size inb_S256x128_S256x128_0_0).toLoadRect (harg16.unread xs4)
  df := View.readAt (Elt F) arg17.view (Rect.unit (s := S8x128) ![0, 0] S1x128.size inb_S8x128_S1x128_0_0).toLoadRect (harg17.unread xs5)
  db := View.readAt (Elt F) arg17.view (Rect.unit (s := S8x128) ![1, 0] S1x128.size inb_S8x128_S1x128_1_0).toLoadRect (harg17.unread xs5)

/-- The rotated queries and keys the body loads back. -/
theorem rot_B  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : ¬cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) (xs0 : Vec F S256x256 .f32) (xs1 : Vec F S256x128 .f32) (xs2 : Vec F S256x128 .f32) (xs3 : Vec F S256x128 .f32) (xs4 : Vec F S256x128 .f32) (xs5 : Vec F S8x128 .f32) :
    kernelRun_B.sl.v195 c arg2 harg2 arg6 harg6 arg7 harg7 arg18 x0 x4 x5 = qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 0 ∧
    kernelRun_B.sl.v208 c arg2 harg2 arg6 harg6 arg7 harg7 arg18 x0 x4 x5 = qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 1 ∧
    kernelRun_B.sl.v221 c arg2 harg2 arg6 harg6 arg7 harg7 arg18 x0 x4 x5 = qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 2 ∧
    kernelRun_B.sl.v234 c arg2 harg2 arg6 harg6 arg7 harg7 arg18 x0 x4 x5 = qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 3 ∧
    kernelRun_B.sl.v247 c arg2 harg2 arg6 harg6 arg7 harg7 arg18 x0 x4 x5 = qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 4 ∧
    kernelRun_B.sl.v260 c arg2 harg2 arg6 harg6 arg7 harg7 arg18 x0 x4 x5 = qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 5 ∧
    kernelRun_B.sl.v273 c arg2 harg2 arg6 harg6 arg7 harg7 arg18 x0 x4 x5 = qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 6 ∧
    kernelRun_B.sl.v286 c arg2 harg2 arg6 harg6 arg7 harg7 arg18 x0 x4 x5 = qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 7 ∧
    kernelRun_B.sl.v197 c arg3 harg3 arg6 harg6 arg7 harg7 arg19 x1 x4 x5 = kr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 0 ∧
    kernelRun_B.sl.v210 c arg3 harg3 arg6 harg6 arg7 harg7 arg19 x1 x4 x5 = kr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 1 ∧
    kernelRun_B.sl.v223 c arg3 harg3 arg6 harg6 arg7 harg7 arg19 x1 x4 x5 = kr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 2 ∧
    kernelRun_B.sl.v236 c arg3 harg3 arg6 harg6 arg7 harg7 arg19 x1 x4 x5 = kr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 3 ∧
    kernelRun_B.sl.v249 c arg3 harg3 arg6 harg6 arg7 harg7 arg19 x1 x4 x5 = kr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 4 ∧
    kernelRun_B.sl.v262 c arg3 harg3 arg6 harg6 arg7 harg7 arg19 x1 x4 x5 = kr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 5 ∧
    kernelRun_B.sl.v275 c arg3 harg3 arg6 harg6 arg7 harg7 arg19 x1 x4 x5 = kr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 6 ∧
    kernelRun_B.sl.v288 c arg3 harg3 arg6 harg6 arg7 harg7 arg19 x1 x4 x5 = kr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 7 := by
  refine ⟨?_, ?_, ?_, ?_, ?_, ?_, ?_, ?_, ?_, ?_, ?_, ?_, ?_, ?_, ?_, ?_⟩
  all_goals simp (disch := decide) only [kernelRun_B.sl.v195, kernelRun_B.sl.v208, kernelRun_B.sl.v221, kernelRun_B.sl.v234, kernelRun_B.sl.v247, kernelRun_B.sl.v260, kernelRun_B.sl.v273,
    kernelRun_B.sl.v286, kernelRun_B.sl.v197, kernelRun_B.sl.v210, kernelRun_B.sl.v223, kernelRun_B.sl.v236, kernelRun_B.sl.v249, kernelRun_B.sl.v262,
    kernelRun_B.sl.v275, kernelRun_B.sl.v288, kernelRun_B.sl.HS6_8, kernelRun_B.sl.HS7_8, ↓ View.readCov_skip, ↓ View.readCov_cons_toLoadRect]
  all_goals try simp only [kernelRun_B.sl.r, kernelRun_B.sl.r_1, kernelRun_B.sl.r_10, kernelRun_B.sl.r_11, kernelRun_B.sl.r_12, kernelRun_B.sl.r_13, kernelRun_B.sl.r_14,
    kernelRun_B.sl.r_15, kernelRun_B.sl.r_16, kernelRun_B.sl.r_17, kernelRun_B.sl.r_18, kernelRun_B.sl.r_19, kernelRun_B.sl.r_2, kernelRun_B.sl.r_20,
    kernelRun_B.sl.r_21, kernelRun_B.sl.r_22, kernelRun_B.sl.r_23, kernelRun_B.sl.r_24, kernelRun_B.sl.r_25, kernelRun_B.sl.r_26, kernelRun_B.sl.r_27,
    kernelRun_B.sl.r_28, kernelRun_B.sl.r_29, kernelRun_B.sl.r_3, kernelRun_B.sl.r_30, kernelRun_B.sl.r_31, kernelRun_B.sl.r_32, kernelRun_B.sl.r_33,
    kernelRun_B.sl.r_34, kernelRun_B.sl.r_35, kernelRun_B.sl.r_36, kernelRun_B.sl.r_37, kernelRun_B.sl.r_38, kernelRun_B.sl.r_4, kernelRun_B.sl.r_5,
    kernelRun_B.sl.r_6, kernelRun_B.sl.r_7, kernelRun_B.sl.r_8, kernelRun_B.sl.r_9]
  all_goals first | done | rfl

/-- What the forward pass finds in the accumulator. -/
theorem fwd_B  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : ¬cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) (xs0 : Vec F S256x256 .f32) (xs1 : Vec F S256x128 .f32) (xs2 : Vec F S256x128 .f32) (xs3 : Vec F S256x128 .f32) (xs4 : Vec F S256x128 .f32) (xs5 : Vec F S8x128 .f32) :
    kernelRun_B.sl.v315 c arg2 harg2 arg3 harg3 arg4 harg4 arg6 harg6 arg7 harg7 arg12 harg12 arg18 arg19 arg20 x0 x1 x2 x4 x5 xs0 = intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 1 ∧
    kernelRun_B.sl.v336 c arg2 harg2 arg3 harg3 arg4 harg4 arg6 harg6 arg7 harg7 arg12 harg12 arg13 harg13 arg15 harg15 arg17 harg17 arg18 arg19 arg20 x0 x1 x2 x4 x5 xs0 xs1 xs3 xs5 = intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 2 ∧
    kernelRun_B.sl.v357 c arg2 harg2 arg3 harg3 arg4 harg4 arg6 harg6 arg7 harg7 arg12 harg12 arg13 harg13 arg15 harg15 arg17 harg17 arg18 arg19 arg20 x0 x1 x2 x4 x5 xs0 xs1 xs3 xs5 = intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 3 ∧
    kernelRun_B.sl.v378 c arg2 harg2 arg3 harg3 arg4 harg4 arg6 harg6 arg7 harg7 arg12 harg12 arg13 harg13 arg15 harg15 arg17 harg17 arg18 arg19 arg20 x0 x1 x2 x4 x5 xs0 xs1 xs3 xs5 = intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 4 ∧
    kernelRun_B.sl.v399 c arg2 harg2 arg3 harg3 arg4 harg4 arg6 harg6 arg7 harg7 arg12 harg12 arg13 harg13 arg15 harg15 arg17 harg17 arg18 arg19 arg20 x0 x1 x2 x4 x5 xs0 xs1 xs3 xs5 = intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 5 ∧
    kernelRun_B.sl.v420 c arg2 harg2 arg3 harg3 arg4 harg4 arg6 harg6 arg7 harg7 arg12 harg12 arg13 harg13 arg15 harg15 arg17 harg17 arg18 arg19 arg20 x0 x1 x2 x4 x5 xs0 xs1 xs3 xs5 = intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 6 ∧
    kernelRun_B.sl.v441 c arg2 harg2 arg3 harg3 arg4 harg4 arg6 harg6 arg7 harg7 arg12 harg12 arg13 harg13 arg15 harg15 arg17 harg17 arg18 arg19 arg20 x0 x1 x2 x4 x5 xs0 xs1 xs3 xs5 = intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 7 := by
  obtain ⟨hv195, hv208, hv221, hv234, hv247, hv260, hv273, hv286, hv197, hv210, hv223, hv236, hv249, hv262, hv275, hv288⟩ := rot_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5
  refine ⟨?_, ?_, ?_, ?_, ?_, ?_, ?_⟩
  all_goals simp (disch := decide) only [kernelRun_B.sl.v315, kernelRun_B.sl.v336, kernelRun_B.sl.v357, kernelRun_B.sl.v378, kernelRun_B.sl.v399, kernelRun_B.sl.v420, kernelRun_B.sl.v441,
    kernelRun_B.sl.HS8_8, kernelRun_B.sl.HS8_9, kernelRun_B.sl.HS8_10, kernelRun_B.sl.HS8_11, kernelRun_B.sl.HS8_12, kernelRun_B.sl.HS8_13,
    kernelRun_B.sl.HS8_14, ↓ View.readCov_skip, ↓ View.readCov_cons_toLoadRect]
  all_goals try simp only [kernelRun_B.sl.r, kernelRun_B.sl.r_1, kernelRun_B.sl.r_10, kernelRun_B.sl.r_11, kernelRun_B.sl.r_12, kernelRun_B.sl.r_13, kernelRun_B.sl.r_14,
    kernelRun_B.sl.r_15, kernelRun_B.sl.r_16, kernelRun_B.sl.r_17, kernelRun_B.sl.r_18, kernelRun_B.sl.r_19, kernelRun_B.sl.r_2, kernelRun_B.sl.r_20,
    kernelRun_B.sl.r_21, kernelRun_B.sl.r_22, kernelRun_B.sl.r_23, kernelRun_B.sl.r_24, kernelRun_B.sl.r_25, kernelRun_B.sl.r_26, kernelRun_B.sl.r_27,
    kernelRun_B.sl.r_28, kernelRun_B.sl.r_29, kernelRun_B.sl.r_3, kernelRun_B.sl.r_30, kernelRun_B.sl.r_31, kernelRun_B.sl.r_32, kernelRun_B.sl.r_33,
    kernelRun_B.sl.r_34, kernelRun_B.sl.r_35, kernelRun_B.sl.r_36, kernelRun_B.sl.r_37, kernelRun_B.sl.r_38, kernelRun_B.sl.r_4, kernelRun_B.sl.r_5,
    kernelRun_B.sl.r_6, kernelRun_B.sl.r_7, kernelRun_B.sl.r_8, kernelRun_B.sl.r_9, hv195, hv208, hv221, hv234, hv247, hv260, hv273, hv286, hv197, hv210,
    hv223, hv236, hv249, hv262, hv275, hv288]
  all_goals first | done | rfl

/-- What the backward pass finds in the accumulator. -/
theorem bwd_B  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : ¬cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) (xs0 : Vec F S256x256 .f32) (xs1 : Vec F S256x128 .f32) (xs2 : Vec F S256x128 .f32) (xs3 : Vec F S256x128 .f32) (xs4 : Vec F S256x128 .f32) (xs5 : Vec F S8x128 .f32) :
    kernelRun_B.sl.v464 c arg2 harg2 arg3 harg3 arg4 harg4 arg6 harg6 arg7 harg7 arg12 harg12 arg13 harg13 arg15 harg15 arg17 harg17 arg18 arg19 arg20 x0 x1 x2 x4 x5 xs0 xs1 xs3 xs5 = k0_pay79 (stF (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 6) (qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 6) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5).qf (intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 6) ∧
    kernelRun_B.sl.v485 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = k0_pay79 (stF (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 5) (qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5).qf (intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 5) ∧
    kernelRun_B.sl.v506 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = k0_pay79 (stF (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 4) (qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 4) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5).qf (intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 4) ∧
    kernelRun_B.sl.v527 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = k0_pay79 (stF (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 3) (qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 3) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5).qf (intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 3) ∧
    kernelRun_B.sl.v548 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = k0_pay79 (stF (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 2) (qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 2) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5).qf (intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 2) ∧
    kernelRun_B.sl.v569 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = k0_pay79 (stF (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 1) (qr (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 1) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5).qf (intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 1) ∧
    kernelRun_B.sl.v590 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = intra (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 0 := by
  obtain ⟨hv195, hv208, hv221, hv234, hv247, hv260, hv273, hv286, hv197, hv210, hv223, hv236, hv249, hv262, hv275, hv288⟩ := rot_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5
  obtain ⟨hv315, hv336, hv357, hv378, hv399, hv420, hv441⟩ := fwd_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5
  refine ⟨?_, ?_, ?_, ?_, ?_, ?_, ?_⟩
  all_goals simp (disch := decide) only [kernelRun_B.sl.v464, kernelRun_B.sl.v485, kernelRun_B.sl.v506, kernelRun_B.sl.v527, kernelRun_B.sl.v548, kernelRun_B.sl.v569, kernelRun_B.sl.v590,
    kernelRun_B.sl.HS8_8, kernelRun_B.sl.HS8_9, kernelRun_B.sl.HS8_10, kernelRun_B.sl.HS8_11, kernelRun_B.sl.HS8_12, kernelRun_B.sl.HS8_13,
    kernelRun_B.sl.HS8_14, kernelRun_B.sl.HS8_15, kernelRun_B.sl.HS8_16, kernelRun_B.sl.HS8_17, kernelRun_B.sl.HS8_18, kernelRun_B.sl.HS8_19,
    kernelRun_B.sl.HS8_20, kernelRun_B.sl.HS8_21, ↓ View.readCov_skip, ↓ View.readCov_cons_toLoadRect]
  all_goals try simp only [kernelRun_B.sl.r, kernelRun_B.sl.r_1, kernelRun_B.sl.r_10, kernelRun_B.sl.r_11, kernelRun_B.sl.r_12, kernelRun_B.sl.r_13, kernelRun_B.sl.r_14,
    kernelRun_B.sl.r_15, kernelRun_B.sl.r_16, kernelRun_B.sl.r_17, kernelRun_B.sl.r_18, kernelRun_B.sl.r_19, kernelRun_B.sl.r_2, kernelRun_B.sl.r_20,
    kernelRun_B.sl.r_21, kernelRun_B.sl.r_22, kernelRun_B.sl.r_23, kernelRun_B.sl.r_24, kernelRun_B.sl.r_25, kernelRun_B.sl.r_26, kernelRun_B.sl.r_27,
    kernelRun_B.sl.r_28, kernelRun_B.sl.r_29, kernelRun_B.sl.r_3, kernelRun_B.sl.r_30, kernelRun_B.sl.r_31, kernelRun_B.sl.r_32, kernelRun_B.sl.r_33,
    kernelRun_B.sl.r_34, kernelRun_B.sl.r_35, kernelRun_B.sl.r_36, kernelRun_B.sl.r_37, kernelRun_B.sl.r_38, kernelRun_B.sl.r_4, kernelRun_B.sl.r_5,
    kernelRun_B.sl.r_6, kernelRun_B.sl.r_7, kernelRun_B.sl.r_8, kernelRun_B.sl.r_9, hv195, hv208, hv221, hv234, hv247, hv260, hv273, hv286, hv197, hv210,
    hv223, hv236, hv249, hv262, hv275, hv288, hv315, hv336, hv357, hv378, hv399, hv420, hv441]
  all_goals first | done | rfl

/-- What the norm finds in the accumulator. -/
theorem fin_B  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : ¬cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) (xs0 : Vec F S256x256 .f32) (xs1 : Vec F S256x128 .f32) (xs2 : Vec F S256x128 .f32) (xs3 : Vec F S256x128 .f32) (xs4 : Vec F S256x128 .f32) (xs5 : Vec F S8x128 .f32) :
    kernelRun_B.sl.v599 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = acc (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 0 ∧
    kernelRun_B.sl.v625 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = acc (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 1 ∧
    kernelRun_B.sl.v651 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = acc (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 2 ∧
    kernelRun_B.sl.v677 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = acc (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 3 ∧
    kernelRun_B.sl.v703 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = acc (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 4 ∧
    kernelRun_B.sl.v729 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = acc (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 5 ∧
    kernelRun_B.sl.v755 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = acc (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 6 ∧
    kernelRun_B.sl.v781 c arg2 harg2 arg3 harg3 arg4 harg4 arg6 harg6 arg7 harg7 arg12 harg12 arg13 harg13 arg14 harg14 arg15 harg15 arg16 harg16 arg17 harg17 arg18 arg19 arg20 x0 x1 x2 x4 x5 xs0 xs1 xs2 xs3 xs4 xs5 = acc (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) 7 := by
  obtain ⟨hv195, hv208, hv221, hv234, hv247, hv260, hv273, hv286, hv197, hv210, hv223, hv236, hv249, hv262, hv275, hv288⟩ := rot_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5
  obtain ⟨hv315, hv336, hv357, hv378, hv399, hv420, hv441⟩ := fwd_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5
  obtain ⟨hv464, hv485, hv506, hv527, hv548, hv569, hv590⟩ := bwd_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5
  refine ⟨?_, ?_, ?_, ?_, ?_, ?_, ?_, ?_⟩
  all_goals simp (disch := decide) only [kernelRun_B.sl.v599, kernelRun_B.sl.v625, kernelRun_B.sl.v651, kernelRun_B.sl.v677, kernelRun_B.sl.v703, kernelRun_B.sl.v729, kernelRun_B.sl.v755,
    kernelRun_B.sl.v781, kernelRun_B.sl.HS8_8, kernelRun_B.sl.HS8_9, kernelRun_B.sl.HS8_10, kernelRun_B.sl.HS8_11, kernelRun_B.sl.HS8_12,
    kernelRun_B.sl.HS8_13, kernelRun_B.sl.HS8_14, kernelRun_B.sl.HS8_15, kernelRun_B.sl.HS8_16, kernelRun_B.sl.HS8_17, kernelRun_B.sl.HS8_18,
    kernelRun_B.sl.HS8_19, kernelRun_B.sl.HS8_20, kernelRun_B.sl.HS8_21, kernelRun_B.sl.HS8_22, ↓ View.readCov_skip, ↓ View.readCov_cons_toLoadRect]
  all_goals try simp only [kernelRun_B.sl.r, kernelRun_B.sl.r_1, kernelRun_B.sl.r_10, kernelRun_B.sl.r_11, kernelRun_B.sl.r_12, kernelRun_B.sl.r_13, kernelRun_B.sl.r_14,
    kernelRun_B.sl.r_15, kernelRun_B.sl.r_16, kernelRun_B.sl.r_17, kernelRun_B.sl.r_18, kernelRun_B.sl.r_19, kernelRun_B.sl.r_2, kernelRun_B.sl.r_20,
    kernelRun_B.sl.r_21, kernelRun_B.sl.r_22, kernelRun_B.sl.r_23, kernelRun_B.sl.r_24, kernelRun_B.sl.r_25, kernelRun_B.sl.r_26, kernelRun_B.sl.r_27,
    kernelRun_B.sl.r_28, kernelRun_B.sl.r_29, kernelRun_B.sl.r_3, kernelRun_B.sl.r_30, kernelRun_B.sl.r_31, kernelRun_B.sl.r_32, kernelRun_B.sl.r_33,
    kernelRun_B.sl.r_34, kernelRun_B.sl.r_35, kernelRun_B.sl.r_36, kernelRun_B.sl.r_37, kernelRun_B.sl.r_38, kernelRun_B.sl.r_4, kernelRun_B.sl.r_5,
    kernelRun_B.sl.r_6, kernelRun_B.sl.r_7, kernelRun_B.sl.r_8, kernelRun_B.sl.r_9, hv195, hv208, hv221, hv234, hv247, hv260, hv273, hv286, hv197, hv210,
    hv223, hv236, hv249, hv262, hv275, hv288, hv315, hv336, hv357, hv378, hv399, hv420, hv441, hv464, hv485, hv506, hv527, hv548, hv569, hv590]
  all_goals first | done | rfl

/-- The stores into the output's buffer are the eight chunks. -/
theorem out_B  (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S2048x128 .bf16) (harg11 : arg11.IsWhole) (arg12 : Memref sig .tc .vmem S256x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S8x128 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (hc0 : ¬cond0_0 i)
    (x0 : Vec F S2048x128 .bf16) (x1 : Vec F S2048x128 .bf16) (x2 : Vec F S2048x128 .bf16) (x3 : Vec F S2048x128 .bf16) (x4 : Vec F S2048x128 .f32) (x5 : Vec F S2048x128 .f32) (x6 : Vec F S1x1x128 .f32) (x7 : Vec F S1x1x128 .f32) (x8 : Vec F S1x1x128 .f32) (xs0 : Vec F S256x256 .f32) (xs1 : Vec F S256x128 .f32) (xs2 : Vec F S256x128 .f32) (xs3 : Vec F S256x128 .f32) (xs4 : Vec F S256x128 .f32) (xs5 : Vec F S8x128 .f32) :
    (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5).1 = outPieces (blB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) (tbB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5) := by
  obtain ⟨hv599, hv625, hv651, hv677, hv703, hv729, hv755, hv781⟩ := fin_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 xs0 xs1 xs2 xs3 xs4 xs5
  unfold kernelRun_B
  dsimp only
  simp only [kernelRun_B.sl.r, kernelRun_B.sl.r_1, kernelRun_B.sl.r_10, kernelRun_B.sl.r_11, kernelRun_B.sl.r_12, kernelRun_B.sl.r_13, kernelRun_B.sl.r_14,
    kernelRun_B.sl.r_15, kernelRun_B.sl.r_16, kernelRun_B.sl.r_17, kernelRun_B.sl.r_18, kernelRun_B.sl.r_19, kernelRun_B.sl.r_2, kernelRun_B.sl.r_20,
    kernelRun_B.sl.r_21, kernelRun_B.sl.r_22, kernelRun_B.sl.r_23, kernelRun_B.sl.r_24, kernelRun_B.sl.r_25, kernelRun_B.sl.r_26, kernelRun_B.sl.r_27,
    kernelRun_B.sl.r_28, kernelRun_B.sl.r_29, kernelRun_B.sl.r_3, kernelRun_B.sl.r_30, kernelRun_B.sl.r_31, kernelRun_B.sl.r_32, kernelRun_B.sl.r_33,
    kernelRun_B.sl.r_34, kernelRun_B.sl.r_35, kernelRun_B.sl.r_36, kernelRun_B.sl.r_37, kernelRun_B.sl.r_38, kernelRun_B.sl.r_4, kernelRun_B.sl.r_5,
    kernelRun_B.sl.r_6, kernelRun_B.sl.r_7, kernelRun_B.sl.r_8, kernelRun_B.sl.r_9, hv599, hv625, hv651, hv677, hv703, hv729, hv755, hv781]
  rfl

end Cert.Ret

end
-- ==== Proof.Ret.Frame.lean ====
/- Retention: the frame. Before a point the scratch holds the tables of its head; after it the output's buffer holds the
   eight chunks. -/
module

public import proofs.«01_k».proof.Proof.Ret.PiecesA
public import proofs.«01_k».proof.Proof.Ret.PiecesB
public import Idealize.ShloMosaic.Lib.Pipeline.ValueKit
public import proofs.«01_k».proof.Proof.Gen.KernelIdeal.Skeleton

@[expose] public section

set_option maxRecDepth 65536

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev r0 : Rect S8x128 := Rect.unit (s := S8x128) ![0, 0] S1x128.size inb_S8x128_S1x128_0_0
abbrev r1 : Rect S8x128 := Rect.unit (s := S8x128) ![1, 0] S1x128.size inb_S8x128_S1x128_1_0

/-- Two rows stored and read back. -/
theorem rows_eq {sp : Space} {κ : Kind} (v : View sig κ sp S8x128 .f32) (f : v.ty.Contents (Elt F)) (a b : Vec F S1x128 .f32) :
    View.ld (v.read (Elt F) (v.writes (Elt F) f [⟨r1, b⟩, ⟨r0, a⟩])) r0 = a
      ∧ View.ld (v.read (Elt F) (v.writes (Elt F) f [⟨r1, b⟩, ⟨r0, a⟩])) r1 = b := by
  constructor
  · funext j
    show v.read (Elt F) (v.writes (Elt F) f [⟨r1, b⟩, ⟨r0, a⟩]) (r0.emb j) = a j
    rw [View.writes_cons, View.read_slice_write_of_not_mem r1 _ _ _ (by
      rw [Rect.map_emb_univ]
      exact LoadRect.idx_not_mem_of_disj (p := r1) (show LoadRect.disj r1 r0.toLoadRect = true by decide) j)]
    exact View.read_writes_cons_emb _ _ _ _ _ _
  · funext j
    exact View.read_writes_cons_emb _ _ _ _ _ _

/-- One store of a whole buffer read back. -/
theorem whole_eq {sp : Space} {κ : Kind} {S : Shape} (v : View sig κ sp S .f32) (f : v.ty.Contents (Elt F)) {off : Fin S.rank → ℕ}
    (inb : ∀ a, off a + S.size a ≤ S.size a) (w : S.Idx → Elt F .f32) (h : ∀ a, off a = 0) :
    v.read (Elt F) (v.writes (Elt F) f [⟨Rect.unit off S.size inb, w⟩]) = w := by
  obtain rfl : off = fun _ => 0 := funext h
  rw [View.read_writes_eq_canon _ _ _ (fun y => ⟨_, List.mem_cons_self, by
    show y ∈ (Rect.whole S).set; rw [Rect.set_whole]; exact Finset.mem_univ y⟩)]
  exact View.canon_cons_unit_lit _ _ _ h

theorem rd_eq {sp : Space} {κ : Kind} {S : Shape} {e : EltTy} (a : Memref sig κ sp S e) (h : a.IsWhole) (X : Vec F S e) (r : Rect S) :
    View.readAt (Elt F) a.view r.toLoadRect (h.unread X) = View.ld X r := by
  rw [View.readAt_eq_ld, Memref.IsWhole.read_unread]

theorem rd_whole {sp : Space} {κ : Kind} {S : Shape} {e : EltTy} (a : Memref sig κ sp S e) (h : a.IsWhole) (X : Vec F S e)
    {off : Fin S.rank → ℕ} (inb : ∀ a, off a + S.size a ≤ S.size a) (h0 : ∀ a, off a = 0) :
    View.readAt (Elt F) a.view (Rect.unit off S.size inb).toLoadRect (h.unread X) = X :=
  (rd_eq a h X _).trans (View.ld_unit_lit inb X h0)

/-- The head's first point. -/
abbrev hp (t : Fin cfg0.N) : Fin cfg0.N := ⟨t.val / 8 * 8, lt_of_le_of_lt (Nat.div_mul_le_self _ _) t.isLt⟩

/-- The head's tables at point `t`. -/
def tabAt (c : Dev nD) (t : Fin cfg0.N) : Tables F := tables (iblk m c 6 (hp t)) (iblk m c 7 (hp t))

/-- The point's blocks. -/
def blkAt (c : Dev nD) (t : Fin cfg0.N) : Blocks F :=
  blocks (iblk m c 0 t) (iblk m c 1 t) (iblk m c 2 t) (iblk m c 3 t) (iblk m c 4 t) (iblk m c 5 t) (iblk m c 8 t)

/-- What the point leaves in the output's buffer. -/
def outAt (c : Dev nD) (t : Fin cfg0.N) : Vec F S2048x128 .bf16 := View.canon (outPieces (blkAt m c t) (tabAt m c t))

theorem cover_out (B : Blocks F) (T : Tables F) (y : S2048x128.Idx) : ∃ pc ∈ outPieces B T, y ∈ pc.1.set :=
  View.cover_of_tiledL (outPieces B T) S256x128.size (by sl_kernel_rfl) y

/-- The scratch holding a head's tables. -/
def tabOwn (c : Dev nD) (T : Tables F) : sProp 𝕄 :=
  iprop(owns (c : Thread nD τ) scM0 fullShare T.mask ∗ owns (c : Thread nD τ) scM1 fullShare T.qf ∗ owns (c : Thread nD τ) scM2 fullShare T.qb ∗ owns (c : Thread nD τ) scM3 fullShare T.kf ∗ owns (c : Thread nD τ) scM4 fullShare T.kb
    ∗ (∃ X, ⌜View.ld X r0 = T.df ∧ View.ld X r1 = T.db⌝ ∗ owns (c : Thread nD τ) scM5 fullShare X))

/-- The other scratch and the generator's register, at anything. -/
def restOwn (c : Dev nD) : sProp 𝕄 :=
  iprop((∃ d, owns (c : Thread nD τ) scM6 fullShare d) ∗ (∃ d, owns (c : Thread nD τ) scM7 fullShare d) ∗ (∃ d, owns (c : Thread nD τ) scM8 fullShare d) ∗ (∃ r, prngReg c r))

/-- The invariant before position `n`. -/
def PhiS (c : Dev nD) : (n : ℕ) → n ≤ cfg0.N → sProp 𝕄
  | 0, _ => Pipeline.ΦA spec0 c
  | n + 1, hn => iprop(tabOwn c (tabAt m c ⟨n, hn⟩) ∗ restOwn (F := F) c)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(tabOwn c (tabAt m c ⟨n, hn⟩) ∗ restOwn (F := F) c) := rfl

theorem PhiS_pos (c : Dev nD) (n : ℕ) (h : n ≤ cfg0.N) (hz : n ≠ 0) :
    PhiS m c n h = iprop(tabOwn c (tabAt m c ⟨n - 1, by omega⟩) ∗ restOwn (F := F) c) := by
  cases n with
  | zero => exact absurd rfl hz
  | succ n => rfl

/-- Inside a head the tables stay. -/
theorem tabAt_pred (c : Dev nD) (t : Fin cfg0.N) (h0 : ¬t.val % 8 = 0) (hlt : t.val - 1 < cfg0.N) :
    tabAt m c ⟨t.val - 1, hlt⟩ = tabAt m c t := by
  have e : hp ⟨t.val - 1, hlt⟩ = hp t := Fin.ext (show (t.val - 1) / 8 * 8 = t.val / 8 * 8 by omega)
  unfold tabAt; rw [e]

/-- Any tables held are anything held. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA_eq]; unfold tabOwn restOwn
    iintro ⟨⟨H0, H1, H2, H3, H4, ⟨%X, -, H5⟩⟩, H6, H7, H8, Hg⟩
    isplitr [Hg]
    swap; · iexact Hg
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexact H6
    isplitl [H7]; · iexact H7
    iexact H8

/-- The proof data: the arrays as the region finds them, every input's buffer at its block, the output's at the chunks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val (Nat.le_of_lt_succ t.isLt)
  q := Pipeline.shareOf spec0
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- The chunks the body loads are the blocks' own, -/
theorem blA_eq (c : Dev nD) (t : Fin cfg0.N) (h0 : t.val % 8 = 0) : blA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 hsc0 scM1 hsc1 scM2 hsc2 scM3 hsc3 scM4 hsc4 scM5 hsc5 scM6 hsc6 scM7 hsc7 scM8 hsc8 ((hcond0_0 t).mpr h0) (iblk m c 0 t) (iblk m c 1 t) (iblk m c 2 t) (iblk m c 3 t) (iblk m c 4 t) (iblk m c 5 t) (iblk m c 6 t) (iblk m c 7 t) (iblk m c 8 t) = blkAt m c t := by
  unfold blA blkAt blocks
  refine (Blocks.mk.injEq ..).mpr ⟨funext fun i => rd_eq _ _ _ _, funext fun i => rd_eq _ _ _ _, funext fun i => rd_eq _ _ _ _,
    funext fun i => rd_eq _ _ _ _, funext fun i => rd_eq _ _ _ _, funext fun i => rd_eq _ _ _ _, rd_whole _ _ _ _ (by decide)⟩

theorem hp_first (t : Fin cfg0.N) (h0 : t.val % 8 = 0) : hp t = t := Fin.ext (show t.val / 8 * 8 = t.val by omega)

theorem tbA_eq (c : Dev nD) (t : Fin cfg0.N) (h0 : t.val % 8 = 0) : tbA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 hsc0 scM1 hsc1 scM2 hsc2 scM3 hsc3 scM4 hsc4 scM5 hsc5 scM6 hsc6 scM7 hsc7 scM8 hsc8 ((hcond0_0 t).mpr h0) (iblk m c 0 t) (iblk m c 1 t) (iblk m c 2 t) (iblk m c 3 t) (iblk m c 4 t) (iblk m c 5 t) (iblk m c 6 t) (iblk m c 7 t) (iblk m c 8 t) = tabAt m c t := by
  unfold tbA tabAt
  rw [hp_first t h0]
  exact congrArg₂ tables (rd_whole _ _ _ _ (by decide)) (rd_whole _ _ _ _ (by decide))

/-- and so at a head's later points, where the tables come from the scratch. -/
theorem blB_eq (c : Dev nD) (t : Fin cfg0.N) (h0 : ¬t.val % 8 = 0) (X : Vec F S8x128 .f32) : blB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 hsc0 scM1 hsc1 scM2 hsc2 scM3 hsc3 scM4 hsc4 scM5 hsc5 scM6 hsc6 scM7 hsc7 scM8 hsc8 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (tabAt m c t).mask (tabAt m c t).qf (tabAt m c t).qb (tabAt m c t).kf (tabAt m c t).kb X = blkAt m c t := by
  unfold blB blkAt blocks
  refine (Blocks.mk.injEq ..).mpr ⟨funext fun i => rd_eq _ _ _ _, funext fun i => rd_eq _ _ _ _, funext fun i => rd_eq _ _ _ _,
    funext fun i => rd_eq _ _ _ _, funext fun i => rd_eq _ _ _ _, funext fun i => rd_eq _ _ _ _, rd_whole _ _ _ _ (by decide)⟩

theorem tbB_eq (c : Dev nD) (t : Fin cfg0.N) (h0 : ¬t.val % 8 = 0) (X : Vec F S8x128 .f32)
    (hX : View.ld X r0 = (tabAt m c t).df ∧ View.ld X r1 = (tabAt m c t).db) : tbB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 hsc0 scM1 hsc1 scM2 hsc2 scM3 hsc3 scM4 hsc4 scM5 hsc5 scM6 hsc6 scM7 hsc7 scM8 hsc8 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (tabAt m c t).mask (tabAt m c t).qf (tabAt m c t).qb (tabAt m c t).kf (tabAt m c t).kb X = tabAt m c t := by
  unfold tbB
  exact (Tables.mk.injEq ..).mpr ⟨rd_whole _ _ _ _ (by decide), rd_whole _ _ _ _ (by decide), rd_whole _ _ _ _ (by decide),
    rd_whole _ _ _ _ (by decide), rd_whole _ _ _ _ (by decide), (rd_eq _ _ _ _).trans hX.1, (rd_eq _ _ _ _).trans hX.2⟩

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9]
  rw [show (dats m 0 c).Φ t.succ = PhiS m c (t.val + 1) t.isLt from rfl, PhiS_succ, PhiS_castSucc m c t]
  unfold outAt
  by_cases h0 : t.val % 8 = 0
  · unfold tabOwn restOwn
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HP := ((PhiS_any m c t.val (Nat.le_of_lt t.isLt)).trans (Entails.of_eq (PhiA_eq c))) $$ HP
    icases HP with ⟨⟨HS0, HS1, HS2, HS3, HS4, HS5, HS6, HS7, HS8⟩, Hg⟩
    iapply ((kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 hsc0 scM1 hsc1 scM2 hsc2 scM3 hsc3 scM4 hsc4 scM5 hsc5 scM6 hsc6 scM7 hsc7 scM8 hsc8 ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, ⟨%e9, H9⟩, ⟨%es0, HS0⟩, ⟨%es1, HS1⟩, ⟨%es2, HS2⟩, ⟨%es3, HS3⟩, ⟨%es4, HS4⟩, ⟨%es5, HS5⟩, HS6, HS7, HS8⟩
    isplitl [HS0 HS1 HS2 HS3 HS4 HS5 HS6 HS7 HS8 Hg]
    · isplitl [HS0 HS1 HS2 HS3 HS4 HS5]
      · unfold owns
        isplitl [HS0]
        · iexists _; isplitr
          swap; · iexact HS0
          ipureintro; rw [table_mask, whole_eq _ _ _ _ (by decide), tbA_eq m c t h0]
        isplitl [HS1]
        · iexists _; isplitr
          swap; · iexact HS1
          ipureintro; rw [table_qf, whole_eq _ _ _ _ (by decide), tbA_eq m c t h0]
        isplitl [HS2]
        · iexists _; isplitr
          swap; · iexact HS2
          ipureintro; rw [table_qb, whole_eq _ _ _ _ (by decide), tbA_eq m c t h0]
        isplitl [HS3]
        · iexists _; isplitr
          swap; · iexact HS3
          ipureintro; rw [table_kf, whole_eq _ _ _ _ (by decide), tbA_eq m c t h0]
        isplitl [HS4]
        · iexists _; isplitr
          swap; · iexact HS4
          ipureintro; rw [table_kb, whole_eq _ _ _ _ (by decide), tbA_eq m c t h0]
        iexists _; isplitr
        swap
        · iexists _; isplitr
          swap; · iexact HS5
          ipureintro; exact rfl
        ipureintro; rw [table_dec, tbA_eq m c t h0]; exact rows_eq _ _ _ _
      isplitl [HS6]; · iexact HS6
      isplitl [HS7]; · iexact HS7
      isplitl [HS8]; · iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; rw [out_A, blA_eq m c t h0, tbA_eq m c t h0]
    exact View.read_writes_eq_canon _ _ _ (cover_out _ _)
  · have hz : t.val ≠ 0 := fun h => h0 (by rw [h])
    rw [PhiS_pos m c _ _ hz, tabAt_pred m c t h0]; unfold tabOwn restOwn
    iintro ⟨⟨⟨HS0, HS1, HS2, HS3, HS4, ⟨%X, %hX, HS5⟩⟩, HS6, HS7, HS8, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 hsc0 scM1 hsc1 scM2 hsc2 scM3 hsc3 scM4 hsc4 scM5 hsc5 scM6 hsc6 scM7 hsc7 scM8 hsc8 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (tabAt m c t).mask (tabAt m c t).qf (tabAt m c t).qb (tabAt m c t).kf (tabAt m c t).kb X).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, ⟨%e9, H9⟩, HS0, HS1, HS2, HS3, HS4, HS5, HS6, HS7, HS8⟩
    isplitl [HS0 HS1 HS2 HS3 HS4 HS5 HS6 HS7 HS8 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexists _; isplitr
        swap; · iexact HS5
        ipureintro; exact hX
      isplitl [HS6]; · iexact HS6
      isplitl [HS7]; · iexact HS7
      isplitl [HS8]; · iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; rw [out_B, blB_eq m c t h0, tbB_eq m c t h0 X hX]
    exact View.read_writes_eq_canon _ _ _ (cover_out _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Ret

end
-- ==== Proof.Ret.Same.lean ====
module

public import proofs.«01_k».proof.Defs
public import proofs.«01_k».proof.Proof.Gen.Kernel
public import proofs.«01_k».proof.Proof.Ret.Frame

/-! The retention kernel as printed and its reading over the reals have the same text: one body table is the other. -/

@[expose] public section

set_option maxRecDepth 16384

noncomputable section

namespace Cert.Ret

open Idealize.ShloMosaic Idealize.SL.Sem

/-- The bodies of the two programs are the same at every grid point. -/
theorem bodies_same : @Cert.Kernel.defs₀ Bits _ _ = @Cert.KernelIdeal.defs₀ Bits _ _ := by
  unfold Cert.Kernel.defs₀ Cert.KernelIdeal.defs₀
  refine congrArg Defs.onTc (funext fun l => funext fun x => ?_)
  match l, x with
  | ⟨0, _⟩, (t, s) => rfl

/-- So are the tables with the pipeline's own labels. -/
theorem defs_same : @Cert.Kernel.defs Bits _ _ = @Cert.KernelIdeal.defs Bits _ _ := by
  unfold Cert.Kernel.defs Cert.KernelIdeal.defs
  rw [bodies_same]
  rfl

/-- The frame of the printed kernel, from the run that is stated over any float values. -/
theorem frame_printed : Cert.quiescent_Kernel := by
  intro m g _
  rw [defs_same]
  exact Cert.Ret.frame (F := Bits) m g

end Cert.Ret

end
-- ==== Proof.Ret.Ref.lean ====
/- Retention: what the plain reference computes, as terms of its arguments. -/
module

public import proofs.«01_k».proof.Proof.Gen.ReferenceIdeal.Run
public import Idealize.ShloMosaic.Lib.Pipeline.ValueKit

@[expose] public section

set_option maxRecDepth 16384

noncomputable section

namespace Cert.Ret

open Cert.ReferenceIdeal Cert.ReferenceIdeal.Gen Idealize.ShloMosaic Idealize.ShloMosaic.TcCoe Idealize.SL.Sem

/-- The projected activations by sequence and position. -/
def P1 (a0 : FVec Ideal S16384x11264 .bf16) : FVec Ideal S8x2048x11264 .f32 :=
  shapeCast _ (extf .f32 a0 bitsLt_bf16_f32) shapeCasts_S16384x11264_S8x2048x11264

/-- The rotation's angles. -/
def ANG : FVec Ideal S2048x64 .f32 :=
  mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The rotated queries. -/
def QREF (a0 : FVec Ideal S16384x11264 .bf16) : FVec Ideal S8x2048x8x128 .f32 :=
  (concatenate S8x2048x8x128 3 [⟨S8x2048x8x64, (subf (mulf (extractStridedSlice S8x2048x8x64 ![0, 0, 0, 0] (shapeCast _ (extractStridedSlice S8x2048x1024 ![0, 0, 0] (P1 a0) slices_S8x2048x11264_S8x2048x1024_0_0_0) shapeCasts_S8x2048x1024_S8x2048x8x128) slices_S8x2048x8x128_S8x2048x8x64_0_0_0_0) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 (Host.cos ANG))))) (mulf (extractStridedSlice S8x2048x8x64 ![0, 0, 0, 64] (shapeCast _ (extractStridedSlice S8x2048x1024 ![0, 0, 0] (P1 a0) slices_S8x2048x11264_S8x2048x1024_0_0_0) shapeCasts_S8x2048x1024_S8x2048x8x128) slices_S8x2048x8x128_S8x2048x8x64_0_0_0_64) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 (Host.sin ANG))))))⟩, ⟨S8x2048x8x64, (addf (mulf (extractStridedSlice S8x2048x8x64 ![0, 0, 0, 0] (shapeCast _ (extractStridedSlice S8x2048x1024 ![0, 0, 0] (P1 a0) slices_S8x2048x11264_S8x2048x1024_0_0_0) shapeCasts_S8x2048x1024_S8x2048x8x128) slices_S8x2048x8x128_S8x2048x8x64_0_0_0_0) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 (Host.sin ANG))))) (mulf (extractStridedSlice S8x2048x8x64 ![0, 0, 0, 64] (shapeCast _ (extractStridedSlice S8x2048x1024 ![0, 0, 0] (P1 a0) slices_S8x2048x11264_S8x2048x1024_0_0_0) shapeCasts_S8x2048x1024_S8x2048x8x128) slices_S8x2048x8x128_S8x2048x8x64_0_0_0_64) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 (Host.cos ANG))))))⟩] concatenates_S8x2048x8x64_S8x2048x8x64_S8x2048x8x128_d3)

/-- The rotated and scaled keys. -/
def KREF (a0 : FVec Ideal S16384x11264 .bf16) : FVec Ideal S8x2048x8x128 .f32 :=
  (mulf (concatenate S8x2048x8x128 3 [⟨S8x2048x8x64, (subf (mulf (extractStridedSlice S8x2048x8x64 ![0, 0, 0, 0] (shapeCast _ (extractStridedSlice S8x2048x1024 ![0, 0, 1024] (P1 a0) slices_S8x2048x11264_S8x2048x1024_0_0_1024) shapeCasts_S8x2048x1024_S8x2048x8x128) slices_S8x2048x8x128_S8x2048x8x64_0_0_0_0) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 (Host.cos ANG))))) (mulf (extractStridedSlice S8x2048x8x64 ![0, 0, 0, 64] (shapeCast _ (extractStridedSlice S8x2048x1024 ![0, 0, 1024] (P1 a0) slices_S8x2048x11264_S8x2048x1024_0_0_1024) shapeCasts_S8x2048x1024_S8x2048x8x128) slices_S8x2048x8x128_S8x2048x8x64_0_0_0_64) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 (Host.sin ANG))))))⟩, ⟨S8x2048x8x64, (addf (mulf (extractStridedSlice S8x2048x8x64 ![0, 0, 0, 0] (shapeCast _ (extractStridedSlice S8x2048x1024 ![0, 0, 1024] (P1 a0) slices_S8x2048x11264_S8x2048x1024_0_0_1024) shapeCasts_S8x2048x1024_S8x2048x8x128) slices_S8x2048x8x128_S8x2048x8x64_0_0_0_0) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 (Host.sin ANG))))) (mulf (extractStridedSlice S8x2048x8x64 ![0, 0, 0, 64] (shapeCast _ (extractStridedSlice S8x2048x1024 ![0, 0, 1024] (P1 a0) slices_S8x2048x11264_S8x2048x1024_0_0_1024) shapeCasts_S8x2048x1024_S8x2048x8x128) slices_S8x2048x8x128_S8x2048x8x64_0_0_0_64) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 (Host.cos ANG))))))⟩] concatenates_S8x2048x8x64_S8x2048x8x64_S8x2048x8x128_d3) (broadcastInDim S8x2048x8x128 ![] bcast_S_S8x2048x8x128 (constant S_ .f32 0x3DB504F3#32)))

/-- The values. -/
def VREF (a0 : FVec Ideal S16384x11264 .bf16) : FVec Ideal S8x2048x8x128 .f32 :=
  (shapeCast _ (extractStridedSlice S8x2048x1024 ![0, 0, 2048] (P1 a0) slices_S8x2048x11264_S8x2048x1024_0_0_2048) shapeCasts_S8x2048x1024_S8x2048x8x128)

/-- The gates. -/
def GREF (a0 : FVec Ideal S16384x11264 .bf16) : FVec Ideal S8x2048x1024 .f32 :=
  extractStridedSlice S8x2048x1024 ![0, 0, 3072] (P1 a0) slices_S8x2048x11264_S8x2048x1024_0_0_3072

/-- The logarithms of the heads' decays. -/
def LREF (a1 : FVec Ideal S1x8 .f32) : FVec Ideal S8 .f32 :=
  (Host.negf (select (cmpf .une (subf (Host.negf (shapeCast _ a1 shapeCasts_S1x8_S8)) (broadcastInDim S8 ![] bcast_S_S8 (constant S_ .f32 0x00000000#32))) (subf (Host.negf (shapeCast _ a1 shapeCasts_S1x8_S8)) (broadcastInDim S8 ![] bcast_S_S8 (constant S_ .f32 0x00000000#32)))) (addf (Host.negf (shapeCast _ a1 shapeCasts_S1x8_S8)) (broadcastInDim S8 ![] bcast_S_S8 (constant S_ .f32 0x00000000#32))) (addf (maximumf (Host.negf (shapeCast _ a1 shapeCasts_S1x8_S8)) (broadcastInDim S8 ![] bcast_S_S8 (constant S_ .f32 0x00000000#32))) (Host.log1p (Host.exp (Host.negf (Host.absf (subf (Host.negf (shapeCast _ a1 shapeCasts_S1x8_S8)) (broadcastInDim S8 ![] bcast_S_S8 (constant S_ .f32 0x00000000#32))))))))))

/-- The difference of the rows. -/
def DREF : FVec Ideal S2048x2048 .f32 :=
  subf (broadcastInDim S2048x2048 ![0, 1] bcast_S2048x1_S2048x2048_0_1 (broadcastInDim S2048x1 ![0] bcast_S2048_S2048x1_0 (sitofp .f32 (iotaInDim S2048 32 0)))) (broadcastInDim S2048x2048 ![0, 1] bcast_S1x2048_S2048x2048_0_1 (broadcastInDim S1x2048 ![1] bcast_S2048_S1x2048_1 (sitofp .f32 (iotaInDim S2048 32 0))))

/-- The decays of every pair of rows. -/
def MREF (a1 a2 : FVec Ideal S1x8 .f32) : FVec Ideal S8x2048x2048 .f32 :=
  (select (broadcastInDim S8x2048x2048 ![1, 2] bcast_S2048x2048_S8x2048x2048_1_2 (cmpf .oge DREF (broadcastInDim S2048x2048 ![] bcast_S_S2048x2048 (constant S_ .f32 0x00000000#32)))) (Host.exp (mulf (broadcastInDim S8x2048x2048 ![0, 1, 2] bcast_S8x1x1_S8x2048x2048_0_1_2 (broadcastInDim S8x1x1 ![0] bcast_S8_S8x1x1_0 (LREF a1))) (broadcastInDim S8x2048x2048 ![0, 1, 2] bcast_S1x2048x2048_S8x2048x2048_0_1_2 (broadcastInDim S1x2048x2048 ![1, 2] bcast_S2048x2048_S1x2048x2048_1_2 (maximumf DREF (broadcastInDim S2048x2048 ![] bcast_S_S2048x2048 (constant S_ .f32 0x00000000#32))))))) (Host.exp (mulf (broadcastInDim S8x2048x2048 ![0, 1, 2] bcast_S8x1x1_S8x2048x2048_0_1_2 (broadcastInDim S8x1x1 ![0] bcast_S8_S8x1x1_0 (LREF a2))) (broadcastInDim S8x2048x2048 ![0, 1, 2] bcast_S1x2048x2048_S8x2048x2048_0_1_2 (broadcastInDim S1x2048x2048 ![1, 2] bcast_S2048x2048_S1x2048x2048_1_2 (maximumf (Host.negf DREF) (broadcastInDim S2048x2048 ![] bcast_S_S2048x2048 (constant S_ .f32 0x00000000#32))))))))

/-- The decayed scores. -/
def SREF (a0 : FVec Ideal S16384x11264 .bf16) (a1 a2 : FVec Ideal S1x8 .f32) : FVec Ideal S8x8x2048x2048 .f32 :=
  mulf (Host.dotGeneral dot_S8x2048x8x128_S8x2048x8x128_S8x8x2048x2048_3_3_1_1_02_02 none (QREF a0) (KREF a0)) (broadcastInDim S8x8x2048x2048 ![0, 1, 2, 3] bcast_S1x8x2048x2048_S8x8x2048x2048_0_1_2_3 (broadcastInDim S1x8x2048x2048 ![1, 2, 3] bcast_S8x2048x2048_S1x8x2048x2048_1_2_3 (MREF a1 a2)))

/-- The rows before the norm. -/
def OREF (a0 : FVec Ideal S16384x11264 .bf16) (a1 a2 : FVec Ideal S1x8 .f32) : FVec Ideal S8x2048x8x128 .f32 :=
  transpose S8x2048x8x128 [0, 3, 1, 2] (Host.dotGeneral dot_S8x2048x8x128_S8x8x2048x2048_S8x8x128x2048_1_3_3_2_02_01 none (VREF a0) (SREF a0 a1 a2)) transposes_S8x8x128x2048_S8x2048x8x128_0_3_1_2

/-- The norm and gate of the rows. -/
def REFO (a0 : FVec Ideal S16384x11264 .bf16) (O : FVec Ideal S8x2048x8x128 .f32) (a3 : FVec Ideal S1x1024 .f32) : FVec Ideal S16384x1024 .bf16 :=
  truncf .bf16 (shapeCast _ (mulf (mulf (GREF a0) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (GREF a0)))))) (shapeCast _ (mulf (mulf O (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf O O) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x8x128_S8x2048x8x128_0_1_2_3 (broadcastInDim S1x1x8x128 ![2, 3] bcast_S8x128_S1x1x8x128_2_3 (shapeCast _ (shapeCast _ a3 shapeCasts_S1x1024_S1024) shapeCasts_S1024_S8x128)))) shapeCasts_S8x2048x8x128_S8x2048x1024)) shapeCasts_S8x2048x1024_S16384x1024) bitsLt_bf16_f32

/-- The reference's result. -/
def REF (a0 : FVec Ideal S16384x11264 .bf16) (a1 a2 : FVec Ideal S1x8 .f32) (a3 : FVec Ideal S1x1024 .f32) : FVec Ideal S16384x1024 .bf16 :=
  REFO a0 (OREF a0 a1 a2) a3

end Cert.Ret

end
-- ==== Proof.Ret.Rows.lean ====
/- Retention: what a grid point reads, chunk by chunk, as elements of the reference's terms. -/
module

public import proofs.«01_k».proof.Proof.Ret.Frame
public import proofs.«01_k».proof.Proof.Ret.Ref
public import Idealize.ShloMosaic.Lib.Pipeline.ValueKit

@[expose] public section

set_option maxRecDepth 65536

noncomputable section

namespace Cert.Ret

open Cert.KernelIdeal Cert.KernelIdeal.Gen Idealize.ShloMosaic Idealize.ShloMosaic.TcCoe Idealize.SL.Sem

variable (m : (ℓ : Loc nD τ sig) → Buf (Elt Ideal) ℓ)

/-- Every window's block index at every grid point. -/
theorem idx : ∀ t : Fin cfg0.N, win0_0.index t = ![t.val % 8, t.val / 8]
    ∧ win0_1.index t = ![t.val % 8, 8 + t.val / 8]
    ∧ win0_2.index t = ![t.val % 8, 16 + t.val / 8]
    ∧ win0_3.index t = ![t.val % 8, 24 + t.val / 8]
    ∧ win0_4.index t = ![0, 0]
    ∧ win0_5.index t = ![0, 0]
    ∧ win0_6.index t = ![t.val / 8, 0, 0]
    ∧ win0_7.index t = ![t.val / 8, 0, 0]
    ∧ win0_8.index t = ![t.val / 8, 0, 0]
    ∧ win0_9.index t = ![t.val % 8, t.val / 8] :=
  (by decide +kernel : ∀ t : Fin grid0.N, _)

/-- The angle of row `n` and lane `d`. -/
def ang (n d : ℕ) : EReal := FloatOps.sitofp (F := Ideal) FTy.f32 (BitVec.ofNat 32 n) *
  Ideal.pow (Ideal.ofBits FTy.f32 0x461C4000#32)
    (Ideal.div (-FloatOps.sitofp (F := Ideal) FTy.f32 (BitVec.ofNat 32 d)) (Ideal.ofBits FTy.f32 0x42800000#32))

theorem ang_eq (n d : ℕ) : ang n d = FloatOps.sitofp (F := Ideal) FTy.f32 (BitVec.ofNat 32 n) *
  Ideal.pow (Ideal.ofBits FTy.f32 0x461C4000#32)
    (Ideal.div (-FloatOps.sitofp (F := Ideal) FTy.f32 (BitVec.ofNat 32 d)) (Ideal.ofBits FTy.f32 0x42800000#32)) := rfl

theorem cs_blk (c : Dev nD) (t : Fin cfg0.N) : iblk m c 4 t = V m c main_v14 := by
  funext x
  blk_ext [iblk, idx t]

theorem sn_blk (c : Dev nD) (t : Fin cfg0.N) : iblk m c 5 t = V m c main_v16 := by
  funext x
  blk_ext [iblk, idx t]

theorem cs_val (c : Dev nD) (t : Fin cfg0.N) (x : S2048x128.Idx) :
    iblk m c 4 t x = Ideal.cos (ang (x 0).val (if (x 1).val < 64 then (x 1).val else (x 1).val - 64)) := by
  rw [cs_blk]
  show V m c main_v14 x = _
  have e : V m c main_v14 = concatenate S2048x128 1 [⟨S2048x64, Host.cos ANG⟩, ⟨S2048x64, Host.cos ANG⟩]
      concatenates_S2048x64_S2048x64_S2048x128_d1 := rfl
  rw [e]
  pointwise [ANG]
  unfold ang
  by_cases h : (x 1).val < 64
  · rw [dif_pos h, if_pos h]
  · rw [dif_neg h, if_neg h]

theorem sn_val (c : Dev nD) (t : Fin cfg0.N) (x : S2048x128.Idx) :
    iblk m c 5 t x = if (x 1).val < 64 then -Ideal.sin (ang (x 0).val (x 1).val) else Ideal.sin (ang (x 0).val ((x 1).val - 64)) := by
  rw [sn_blk]
  show V m c main_v16 x = _
  have e : V m c main_v16 = concatenate S2048x128 1 [⟨S2048x64, Host.negf (Host.sin ANG)⟩, ⟨S2048x64, Host.sin ANG⟩]
      concatenates_S2048x64_S2048x64_S2048x128_d1 := rfl
  rw [e]
  pointwise [ANG]
  rfl

/-- An element of the activations, by row and column. -/
def el (a0 : FVec Ideal S16384x11264 .bf16) (r c : ℕ) : EReal := a0 (ix2 (Fin.ofNat 16384 r) (Fin.ofNat 11264 c))

theorem el_mk (a0 : FVec Ideal S16384x11264 .bf16) {r c : ℕ} {hr : r < 16384} {hc : c < 11264} :
    a0 (ix2 ⟨r, hr⟩ ⟨c, hc⟩) = el a0 r c := by
  unfold el
  congr 2
  · exact Fin.ext (Nat.mod_eq_of_lt hr).symm
  · exact Fin.ext (Nat.mod_eq_of_lt hc).symm

theorem p_blk0 (c : Dev nD) (t : Fin cfg0.N) (x : S2048x128.Idx) :
    iblk m c 0 t x = el (m ((c : Thread nD τ).loc main_arg0)) (t.val % 8 * 2048 + (x 0).val) (t.val / 8 * 128 + (x 1).val) := by
  have h0 : (x 0 : ℕ) < 2048 := (x 0).isLt
  have h1 : (x 1 : ℕ) < 128 := (x 1).isLt
  have ht : t.val < 64 := t.isLt
  rw [← el_mk _ (hr := (by omega : t.val % 8 * 2048 + (x 0).val < 16384)) (hc := (by omega : t.val / 8 * 128 + (x 1).val < 11264))]
  blk_ext [iblk, V, idx t]

theorem p_blk1 (c : Dev nD) (t : Fin cfg0.N) (x : S2048x128.Idx) :
    iblk m c 1 t x = el (m ((c : Thread nD τ).loc main_arg0)) (t.val % 8 * 2048 + (x 0).val) (1024 + t.val / 8 * 128 + (x 1).val) := by
  have h0 : (x 0 : ℕ) < 2048 := (x 0).isLt
  have h1 : (x 1 : ℕ) < 128 := (x 1).isLt
  have ht : t.val < 64 := t.isLt
  rw [← el_mk _ (hr := (by omega : t.val % 8 * 2048 + (x 0).val < 16384)) (hc := (by omega : 1024 + t.val / 8 * 128 + (x 1).val < 11264))]
  blk_ext [iblk, V, idx t]

theorem p_blk2 (c : Dev nD) (t : Fin cfg0.N) (x : S2048x128.Idx) :
    iblk m c 2 t x = el (m ((c : Thread nD τ).loc main_arg0)) (t.val % 8 * 2048 + (x 0).val) (2048 + t.val / 8 * 128 + (x 1).val) := by
  have h0 : (x 0 : ℕ) < 2048 := (x 0).isLt
  have h1 : (x 1 : ℕ) < 128 := (x 1).isLt
  have ht : t.val < 64 := t.isLt
  rw [← el_mk _ (hr := (by omega : t.val % 8 * 2048 + (x 0).val < 16384)) (hc := (by omega : 2048 + t.val / 8 * 128 + (x 1).val < 11264))]
  blk_ext [iblk, V, idx t]

theorem p_blk3 (c : Dev nD) (t : Fin cfg0.N) (x : S2048x128.Idx) :
    iblk m c 3 t x = el (m ((c : Thread nD τ).loc main_arg0)) (t.val % 8 * 2048 + (x 0).val) (3072 + t.val / 8 * 128 + (x 1).val) := by
  have h0 : (x 0 : ℕ) < 2048 := (x 0).isLt
  have h1 : (x 1 : ℕ) < 128 := (x 1).isLt
  have ht : t.val < 64 := t.isLt
  rw [← el_mk _ (hr := (by omega : t.val % 8 * 2048 + (x 0).val < 16384)) (hc := (by omega : 3072 + t.val / 8 * 128 + (x 1).val < 11264))]
  blk_ext [iblk, V, idx t]

/-- The rotation of one lane `x` of row `n`, with `z` the lane half a head away. -/
def rot (x z : EReal) (n d : ℕ) : EReal :=
  if d < 64 then x * Ideal.cos (ang n d) + z * -Ideal.sin (ang n d)
  else x * Ideal.cos (ang n (d - 64)) + z * Ideal.sin (ang n (d - 64))

theorem vref_val (a0 : FVec Ideal S16384x11264 .bf16) (j : Cert.ReferenceIdeal.S8x2048x8x128.Idx) :
    VREF a0 j = el a0 ((j 0).val * 2048 + (j 1).val) (2048 + (j 2).val * 128 + (j 3).val) := by
  pointwise [VREF, P1]
  simp only [el_mk, add_assoc]

theorem qref_val (a0 : FVec Ideal S16384x11264 .bf16) (j : Cert.ReferenceIdeal.S8x2048x8x128.Idx) :
    QREF a0 j = rot (el a0 ((j 0).val * 2048 + (j 1).val) ((j 2).val * 128 + (j 3).val))
      (el a0 ((j 0).val * 2048 + (j 1).val) ((j 2).val * 128 + ((j 3).val + 128 - 64) % 128)) (j 1).val (j 3).val := by
  have h3 : (j 3 : ℕ) < 128 := (j 3).isLt
  pointwise [QREF, P1, ANG]
  simp only [el_mk, ← ang_eq]
  unfold rot
  by_cases h : (j 3 : ℕ) < 64
  · rw [dif_pos h, if_pos h, show ((j 3).val + 128 - 64) % 128 = 64 + (j 3).val by omega, sub_eq_add_neg, mul_neg]
  · rw [dif_neg h, if_neg h, show ((j 3).val + 128 - 64) % 128 = (j 3).val - 64 by omega, show 64 + ((j 3).val - 64) = (j 3).val by omega,
      add_comm]

theorem kref_val (a0 : FVec Ideal S16384x11264 .bf16) (j : Cert.ReferenceIdeal.S8x2048x8x128.Idx) :
    KREF a0 j = rot (el a0 ((j 0).val * 2048 + (j 1).val) (1024 + (j 2).val * 128 + (j 3).val))
      (el a0 ((j 0).val * 2048 + (j 1).val) (1024 + (j 2).val * 128 + ((j 3).val + 128 - 64) % 128)) (j 1).val (j 3).val
        * Ideal.ofBits .f32 0x3DB504F3#32 := by
  have h3 : (j 3 : ℕ) < 128 := (j 3).isLt
  pointwise [KREF, P1, ANG]
  simp only [el_mk, ← ang_eq]
  unfold rot
  congr 1
  by_cases h : (j 3 : ℕ) < 64
  · rw [dif_pos h, if_pos h, show ((j 3).val + 128 - 64) % 128 = 64 + (j 3).val by omega, sub_eq_add_neg, mul_neg]
    simp only [add_assoc]
  · rw [dif_neg h, if_neg h, show ((j 3).val + 128 - 64) % 128 = (j 3).val - 64 by omega, show 64 + ((j 3).val - 64) = (j 3).val by omega,
      add_comm]
    simp only [add_assoc]

theorem vrow (c : Dev nD) (t : Fin cfg0.N) (i : Fin 8) (y : S256x128.Idx) :
    (blkAt m c t).v i y = el (m ((c : Thread nD τ).loc main_arg0)) (t.val % 8 * 2048 + (256 * i.val + (y 0).val)) (2048 + t.val / 8 * 128 + (y 1).val) := by
  idx_vars y
  show View.ld (iblk m c 2 t) (rc i) _ = _
  pointwise
  rw [p_blk2]
  rfl

theorem grow (c : Dev nD) (t : Fin cfg0.N) (i : Fin 8) (y : S256x128.Idx) :
    (blkAt m c t).g i y = el (m ((c : Thread nD τ).loc main_arg0)) (t.val % 8 * 2048 + (256 * i.val + (y 0).val)) (3072 + t.val / 8 * 128 + (y 1).val) := by
  idx_vars y
  show View.ld (iblk m c 3 t) (rc i) _ = _
  pointwise
  rw [p_blk3]
  rfl

theorem qrow (c : Dev nD) (t : Fin cfg0.N) (i : Fin 8) (y : S256x128.Idx) :
    qr (blkAt m c t) i y = rot (el (m ((c : Thread nD τ).loc main_arg0)) (t.val % 8 * 2048 + (256 * i.val + (y 0).val)) (t.val / 8 * 128 + (y 1).val))
      (el (m ((c : Thread nD τ).loc main_arg0)) (t.val % 8 * 2048 + (256 * i.val + (y 0).val)) (t.val / 8 * 128 + ((y 1).val + 128 - 64) % 128))
        (256 * i.val + (y 0).val) (y 1).val := by
  idx_vars y
  show k0_pay15 (F := Ideal) (View.ld (iblk m c 4 t) (rc i)) (View.ld (iblk m c 5 t) (rc i)) (View.ld (iblk m c 0 t) (rc i)) _ = _
  pointwise [k0_pay15, k0_pay13, k0_pay14]
  simp only [p_blk0, cs_val, sn_val, ix2_0, ix2_1]
  unfold rot
  by_cases h : (y1 : ℕ) < 64
  · simp only [h, if_true]
  · simp only [h, if_false]

theorem krow (c : Dev nD) (t : Fin cfg0.N) (i : Fin 8) (y : S256x128.Idx) :
    kr (blkAt m c t) i y = rot (el (m ((c : Thread nD τ).loc main_arg0)) (t.val % 8 * 2048 + (256 * i.val + (y 0).val)) (1024 + t.val / 8 * 128 + (y 1).val))
      (el (m ((c : Thread nD τ).loc main_arg0)) (t.val % 8 * 2048 + (256 * i.val + (y 0).val)) (1024 + t.val / 8 * 128 + ((y 1).val + 128 - 64) % 128))
        (256 * i.val + (y 0).val) (y 1).val * Ideal.ofBits .f32 0x3DB504F3#32 := by
  idx_vars y
  show k0_pay16 (F := Ideal) (View.ld (iblk m c 4 t) (rc i)) (View.ld (iblk m c 5 t) (rc i)) (View.ld (iblk m c 1 t) (rc i)) _ = _
  pointwise [k0_pay16, k0_pay13, k0_pay14]
  simp only [p_blk1, cs_val, sn_val, ix2_0, ix2_1]
  unfold rot
  by_cases h : (y1 : ℕ) < 64
  · simp only [h, if_true]
  · simp only [h, if_false]

end Cert.Ret

end
-- ==== Proof.Ret.Math.lean ====
/- Retention over the reals: the states carried from chunk to chunk, unrolled, and the sum over all the rows that one
   output row is. -/
module

public import proofs.«01_k».proof.Proof.Ret.Spec
public import Idealize.ShloMosaic.Lib.Pipeline.ValueKit

@[expose] public section

set_option maxRecDepth 16384

noncomputable section

namespace Cert.Ret

open Cert.KernelIdeal Cert.KernelIdeal.Gen
open Idealize.ShloMosaic Idealize.ShloMosaic.TcCoe
open Finset

/-! ### Sums of reals -/

/-- The weight of row `m` in row `n`: the forward decay for the rows up to `n`, the backward one for those after it. -/
def wt (gf gb : ℝ) (n m : ℕ) : ℝ := if m ≤ n then gf ^ (n - m) else gb ^ (m - n)

/-- The keys against the values of the first `n` chunks, decayed to the end of the last of them. -/
def SF (K V : ℕ → ℕ → ℝ) (g : ℝ) (n d e : ℕ) : ℝ := ∑ m ∈ range (256 * n), g ^ (256 * n - 1 - m) * (K m d * V m e)

/-- The keys against the values of the last `n` chunks, decayed to the start of the first of them. -/
def SB (K V : ℕ → ℕ → ℝ) (g : ℝ) (n d e : ℕ) : ℝ :=
  ∑ u ∈ range (256 * n), g ^ u * (K (256 * (8 - n) + u) d * V (256 * (8 - n) + u) e)

theorem SF_succ (K V : ℕ → ℕ → ℝ) (g : ℝ) (n d e : ℕ) : SF K V g (n + 1) d e
    = g ^ 256 * SF K V g n d e + ∑ x : Fin 256, K (256 * n + x) d * g ^ (255 - x.val) * V (256 * n + x) e := by
  unfold SF
  rw [show 256 * (n + 1) = 256 * n + 256 by ring, Finset.sum_range_add, Finset.mul_sum]
  congr 1
  · refine Finset.sum_congr rfl fun m hm => ?_
    have := Finset.mem_range.1 hm
    rw [show 256 * n + 256 - 1 - m = 256 + (256 * n - 1 - m) by omega, pow_add]
    ring
  · rw [Finset.sum_range]
    refine Finset.sum_congr rfl fun x _ => ?_
    have := x.isLt
    rw [show 256 * n + 256 - 1 - (256 * n + x.val) = 255 - x.val by omega]
    ring

theorem SB_succ (K V : ℕ → ℕ → ℝ) (g : ℝ) (n d e : ℕ) (hn : n < 8) : SB K V g (n + 1) d e
    = g ^ 256 * SB K V g n d e + ∑ x : Fin 256, K (256 * (7 - n) + x) d * g ^ x.val * V (256 * (7 - n) + x) e := by
  unfold SB
  rw [show 256 * (n + 1) = 256 + 256 * n by ring, Finset.sum_range_add, Finset.mul_sum, add_comm]
  congr 1
  · refine Finset.sum_congr rfl fun m _ => ?_
    rw [show 256 * (8 - (n + 1)) + (256 + m) = 256 * (8 - n) + m by omega, pow_add]
    ring
  · rw [Finset.sum_range]
    refine Finset.sum_congr rfl fun x _ => ?_
    rw [show 8 - (n + 1) = 7 - n by omega]
    ring

/-- The forward state against a decayed query is the sum over the rows before the chunk. -/
theorem fwd_sum (Q K V : ℕ → ℕ → ℝ) (g gb : ℝ) (i r e : ℕ) :
    ∑ d : Fin 128, Q (256 * i + r) d * g ^ (r + 1) * SF K V g i d e
      = ∑ m ∈ range (256 * i), (∑ d : Fin 128, Q (256 * i + r) d * K m d) * wt g gb (256 * i + r) m * V m e := by
  unfold SF
  simp only [Finset.mul_sum, Finset.sum_mul]
  rw [Finset.sum_comm]
  refine Finset.sum_congr rfl fun m hm => Finset.sum_congr rfl fun d _ => ?_
  have := Finset.mem_range.1 hm
  rw [wt, if_pos (by omega), show 256 * i + r - m = (r + 1) + (256 * i - 1 - m) by omega, pow_add]
  ring

/-- The backward state against a decayed query is the sum over the rows after the chunk. -/
theorem bwd_sum (Q K V : ℕ → ℕ → ℝ) (g gf : ℝ) (i r e : ℕ) (hi : i < 8) (hr : r < 256) :
    ∑ d : Fin 128, Q (256 * i + r) d * g ^ (256 - r) * SB K V g (7 - i) d e
      = ∑ u ∈ range (256 * (7 - i)), (∑ d : Fin 128, Q (256 * i + r) d * K (256 * i + (256 + u)) d)
          * wt gf g (256 * i + r) (256 * i + (256 + u)) * V (256 * i + (256 + u)) e := by
  unfold SB
  simp only [Finset.mul_sum, Finset.sum_mul]
  rw [Finset.sum_comm]
  refine Finset.sum_congr rfl fun m _ => Finset.sum_congr rfl fun d _ => ?_
  rw [wt, if_neg (by omega), show 256 * i + (256 + m) - (256 * i + r) = (256 - r) + m by omega, pow_add,
    show 256 * (8 - (7 - i)) + m = 256 * i + (256 + m) by omega]
  ring

/-- The scores inside the chunk and the two states make the sum over all the rows. -/
theorem whole_sum (Q K V : ℕ → ℕ → ℝ) (gf gb : ℝ) (i r e : ℕ) (hi : i < 8) (hr : r < 256) :
    (∑ x : Fin 256, (∑ d : Fin 128, Q (256 * i + r) d * K (256 * i + x) d) * wt gf gb r x * V (256 * i + x) e
        + ∑ d : Fin 128, Q (256 * i + r) d * gf ^ (r + 1) * SF K V gf i d e)
        + ∑ d : Fin 128, Q (256 * i + r) d * gb ^ (256 - r) * SB K V gb (7 - i) d e
      = ∑ m : Fin 2048, (∑ d : Fin 128, Q (256 * i + r) d * K m d) * wt gf gb (256 * i + r) m * V m e := by
  rw [fwd_sum Q K V gf gb, bwd_sum Q K V gb gf i r e hi hr, ← Finset.sum_range
    (fun m => (∑ d : Fin 128, Q (256 * i + r) d * K m d) * wt gf gb (256 * i + r) m * V m e),
    show range 2048 = range (256 * i + (256 + 256 * (7 - i))) by congr 1; omega, Finset.sum_range_add,
    Finset.sum_range_add, ← Finset.sum_range
    (fun x => (∑ d : Fin 128, Q (256 * i + r) d * K (256 * i + x) d) * wt gf gb r x * V (256 * i + x) e), ← add_assoc,
    add_comm (∑ x ∈ range 256, _)]
  congr 2
  refine Finset.sum_congr rfl fun x _ => ?_
  congr 2
  unfold wt
  rw [show 256 * i + r - (256 * i + x) = r - x by omega, show 256 * i + x - (256 * i + r) = x - r by omega]
  by_cases h : x ≤ r
  · rw [if_pos h, if_pos (by omega)]
  · rw [if_neg h, if_neg (by omega)]

/-! ### The point's blocks as reals -/

/-- A finite sum of reals, read as an extended real. -/
theorem coe_sum {n : ℕ} (f : Fin n → ℝ) : (∑ x, ((f x : ℝ) : EReal)) = ((∑ x, f x : ℝ) : EReal) :=
  (map_sum (⟨⟨Real.toEReal, EReal.coe_zero⟩, EReal.coe_add⟩ : ℝ →+ EReal) f Finset.univ).symm

/-- The rotated queries and keys, the values and the tables hold these reals. -/
structure Holds (B : Blocks Ideal) (T : Tables Ideal) (Q K V : ℕ → ℕ → ℝ) (gf gb : ℝ) : Prop where
  q : ∀ (i : Fin 8) (y : S256x128.Idx), qr B i y = ((Q (256 * i.val + (y 0).val) (y 1).val : ℝ) : EReal)
  k : ∀ (i : Fin 8) (y : S256x128.Idx), kr B i y = ((K (256 * i.val + (y 0).val) (y 1).val : ℝ) : EReal)
  v : ∀ (i : Fin 8) (y : S256x128.Idx), B.v i y = ((V (256 * i.val + (y 0).val) (y 1).val : ℝ) : EReal)
  mask : ∀ y : S256x256.Idx, T.mask y = ((wt gf gb (y 0).val (y 1).val : ℝ) : EReal)
  qf : ∀ y : S256x128.Idx, T.qf y = ((gf ^ ((y 0).val + 1) : ℝ) : EReal)
  qb : ∀ y : S256x128.Idx, T.qb y = ((gb ^ (256 - (y 0).val) : ℝ) : EReal)
  kf : ∀ y : S256x128.Idx, T.kf y = ((gf ^ (255 - (y 0).val) : ℝ) : EReal)
  kb : ∀ y : S256x128.Idx, T.kb y = ((gb ^ (y 0).val : ℝ) : EReal)
  df : ∀ y : S1x128.Idx, T.df y = ((gf ^ 256 : ℝ) : EReal)
  db : ∀ y : S1x128.Idx, T.db y = ((gb ^ 256 : ℝ) : EReal)

variable {B : Blocks Ideal} {T : Tables Ideal} {Q K V : ℕ → ℕ → ℝ} {gf gb : ℝ}

theorem stF_val (H : Holds B T Q K V gf gb) : ∀ n : ℕ, n ≤ 8 → ∀ y : S128x128.Idx,
    stF B T n y = ((SF K V gf n (y 0).val (y 1).val : ℝ) : EReal) := by
  intro n
  induction n with
  | zero =>
    intro _ y
    pointwise [stF]
    simp [SF]
  | succ n ih =>
    intro hn y
    have e : (Fin.ofNat 8 n).val = n := Nat.mod_eq_of_lt (by omega)
    have ih' := ih (by omega) y
    rw [SF_succ, stF, step]
    generalize stF B T n = st at ih' ⊢
    pointwise [k0_pay80]
    rw [ih', H.df]
    simp only [H.k, H.kf, H.v, e, ← EReal.coe_mul, coe_sum, ← EReal.coe_add]
    rfl

theorem stB_val (H : Holds B T Q K V gf gb) : ∀ n : ℕ, n ≤ 8 → ∀ y : S128x128.Idx,
    stB B T n y = ((SB K V gb n (y 0).val (y 1).val : ℝ) : EReal) := by
  intro n
  induction n with
  | zero =>
    intro _ y
    pointwise [stB]
    simp [SB]
  | succ n ih =>
    intro hn y
    have e : (Fin.ofNat 8 (7 - n)).val = 7 - n := Nat.mod_eq_of_lt (by omega)
    have ih' := ih (by omega) y
    rw [SB_succ _ _ _ _ _ _ (by omega), stB, step]
    generalize stB B T n = st at ih' ⊢
    pointwise [k0_pay80]
    rw [ih', H.db]
    simp only [H.k, H.kb, H.v, e, ← EReal.coe_mul, coe_sum, ← EReal.coe_add]
    rfl

theorem intra_val (H : Holds B T Q K V gf gb) (i : Fin 8) (y : S256x128.Idx) : intra B T i y
    = ((∑ x : Fin 256, (∑ d : Fin 128, Q (256 * i.val + (y 0).val) d * K (256 * i.val + x) d) * wt gf gb (y 0).val x
        * V (256 * i.val + x) (y 1).val : ℝ) : EReal) := by
  rw [intra]
  have hq := H.q i
  have hk := H.k i
  generalize qr B i = qq at hq ⊢
  generalize kr B i = kk at hk ⊢
  pointwise [k0_pay51]
  simp only [hq, hk, H.mask, H.v, ← EReal.coe_mul, coe_sum, ← EReal.coe_add]
  rfl

theorem carry_val (st : FVec Ideal S128x128 .f32) (qq w a : FVec Ideal S256x128 .f32) (y : S256x128.Idx) :
    k0_pay79 (F := Ideal) st qq w a y = a y + ∑ x : Fin 128, qq (ix2 (y 0) x) * w (ix2 (y 0) x) * st (ix2 x (y 1)) := by
  pointwise [k0_pay79]

/-- One row before the norm is the sum over all the rows. -/
theorem acc_val (H : Holds B T Q K V gf gb) (i : Fin 8) (y : S256x128.Idx) : acc B T i y
    = ((∑ m : Fin 2048, (∑ d : Fin 128, Q (256 * i.val + (y 0).val) d * K m d) * wt gf gb (256 * i.val + (y 0).val) m
        * V m (y 1).val : ℝ) : EReal) := by
  have hi := i.isLt
  have hr : (y 0).val < 256 := (y 0).isLt
  rw [← whole_sum Q K V gf gb i.val (y 0).val (y 1).val hi hr]
  have hF : (if i.val = 0 then intra B T i else k0_pay79 (stF B T i.val) (qr B i) T.qf (intra B T i)) y
      = ((∑ x : Fin 256, (∑ d : Fin 128, Q (256 * i.val + (y 0).val) d * K (256 * i.val + x) d) * wt gf gb (y 0).val x
        * V (256 * i.val + x) (y 1).val
        + ∑ d : Fin 128, Q (256 * i.val + (y 0).val) d * gf ^ ((y 0).val + 1) * SF K V gf i.val d (y 1).val : ℝ) : EReal) := by
    by_cases h : i.val = 0
    · rw [if_pos h, intra_val H]
      simp [h, SF]
    · rw [if_neg h, carry_val, intra_val H]
      simp only [H.q, H.qf, stF_val H i.val (by omega), ← EReal.coe_mul, coe_sum, ← EReal.coe_add]
      rfl
  unfold acc
  dsimp only
  by_cases h : i.val = 7
  · rw [if_pos h, hF]
    simp [h, SB]
  · rw [if_neg h, carry_val, hF]
    simp only [H.q, H.qb, stB_val H (7 - i.val) (by omega), ← EReal.coe_mul, coe_sum, ← EReal.coe_add]
    rfl

end Cert.Ret

end
-- ==== Proof.Ret.Scalar.lean ====
/- Retention over the reals: the decays' logarithms, their powers, and the head's tables. -/
module

public import proofs.«01_k».proof.Proof.Ret.Math

@[expose] public section

set_option maxRecDepth 16384

noncomputable section

namespace Cert.Ret

open Cert.KernelIdeal Cert.KernelIdeal.Gen
open Idealize.ShloMosaic Idealize.ShloMosaic.TcCoe

/-! ### Words and literals -/

theorem word_val {n : ℕ} (h : n < 4096) : FloatOps.sitofp (F := Ideal) FTy.f32 (BitVec.ofNat 32 n) = ((n : ℝ) : EReal) := by
  show (((BitVec.ofNat 32 n).toInt : ℝ) : EReal) = _
  rw [BitVec.toInt_ofNat', Int.bmod_eq_of_le (by omega) (by omega)]
  norm_cast

theorem word_sub_val {a b : ℕ} (ha : a < 4096) (hb : b < 4096) :
    FloatOps.sitofp (F := Ideal) FTy.f32 (IntOp.subi (BitVec.ofNat 32 a) (BitVec.ofNat 32 b)) = (((a : ℝ) - (b : ℝ) : ℝ) : EReal) := by
  show (((BitVec.ofNat 32 a - BitVec.ofNat 32 b).toInt : ℝ) : EReal) = _
  have e : (BitVec.ofNat 32 a - BitVec.ofNat 32 b).toInt = (a : ℤ) - (b : ℤ) := by
    rw [BitVec.toInt_sub, BitVec.toInt_ofNat', BitVec.toInt_ofNat', Int.bmod_eq_of_le (n := (a : ℤ)) (by omega) (by omega),
      Int.bmod_eq_of_le (n := (b : ℤ)) (by omega) (by omega), Int.bmod_eq_of_le (by omega) (by omega)]
  rw [e]
  push_cast
  rfl

theorem lit_256 : Ideal.ofBits .f32 0x43800000#32 = ((256 : ℝ) : EReal) := by
  simp [Ideal.ofBits, Ideal.ieee, -EReal.coe_mul]; norm_num

theorem lit_255 : Ideal.ofBits .f32 0x437F0000#32 = ((255 : ℝ) : EReal) := by
  simp [Ideal.ofBits, Ideal.ieee, -EReal.coe_mul]; norm_num

/-! ### The logarithm of a decay -/

/-- The logarithm of the logistic of `x`, as the kernel computes it. -/
def lsg (x : EReal) : EReal := min x 0 - Ideal.log1p (Ideal.exp (0 - FloatOps.absf (F := Ideal) (φ := .f32) x))

/-- The decay itself. -/
def gam (x : EReal) : ℝ := (Ideal.exp (lsg x)).toReal

theorem exp_nonneg (x : EReal) : 0 ≤ Ideal.exp x := by
  induction x using EReal.rec with
  | bot => exact le_refl _
  | top => exact le_top
  | coe r => exact EReal.coe_nonneg.2 (Real.exp_pos r).le

theorem log1p_nonneg {x : EReal} (h : 0 ≤ x) : 0 ≤ Ideal.log1p x := by
  unfold Ideal.log1p
  induction x using EReal.rec with
  | bot => exact absurd h (by simp)
  | top => exact le_top
  | coe r =>
    have hr : 0 ≤ r := EReal.coe_nonneg.1 h
    show 0 ≤ Ideal.log (((1 : ℝ) : EReal) + (r : EReal))
    rw [← EReal.coe_add]
    show 0 ≤ (if 1 + r ≤ 0 then (⊥ : EReal) else (Real.log (1 + r) : EReal))
    rw [if_neg (by linarith)]
    exact EReal.coe_nonneg.2 (Real.log_nonneg (by linarith))

theorem lsg_ne_top (x : EReal) : lsg x ≠ ⊤ := by
  unfold lsg
  have h := log1p_nonneg (exp_nonneg (0 - FloatOps.absf (F := Ideal) (φ := .f32) x))
  have h2 : min x 0 - Ideal.log1p (Ideal.exp (0 - FloatOps.absf (F := Ideal) (φ := .f32) x)) ≤ 0 := by
    refine (EReal.sub_le_sub (min_le_right x 0) h).trans ?_
    simp
  exact fun e => absurd (e ▸ h2) (by simp)

/-- The exponential of a multiple of the logarithm is a power. -/
theorem exp_mul_nat {x : EReal} (hx : x ≠ ⊤) (n : ℕ) :
    Ideal.exp (x * ((n : ℝ) : EReal)) = (((Ideal.exp x).toReal ^ n : ℝ) : EReal) := by
  induction x using EReal.rec with
  | top => exact absurd rfl hx
  | bot =>
    rcases Nat.eq_zero_or_pos n with h | h
    · subst h
      rw [show ((⊥ : EReal) * (((0 : ℕ) : ℝ) : EReal)) = ((0 : ℝ) : EReal) by simp]
      show ((Real.exp 0 : ℝ) : EReal) = _
      simp
    · rw [EReal.bot_mul_coe_of_pos (by exact_mod_cast h)]
      show (0 : EReal) = (((0 : EReal).toReal ^ n : ℝ) : EReal)
      rw [EReal.toReal_zero, zero_pow (by omega)]
      rfl
  | coe r =>
    rw [← EReal.coe_mul]
    show ((Real.exp (r * n) : ℝ) : EReal) = ((((Real.exp r : ℝ) : EReal).toReal ^ n : ℝ) : EReal)
    rw [EReal.toReal_coe, mul_comm, Real.exp_nat_mul]

theorem gam_pow (x : EReal) (n : ℕ) : Ideal.exp (lsg x * ((n : ℝ) : EReal)) = ((gam x ^ n : ℝ) : EReal) :=
  exp_mul_nat (lsg_ne_top x) n

/-- The other way of writing the logarithm of the logistic, with the maximum of `-x` and zero. -/
theorem lsg_eq (x : EReal) : -(max (-x) 0 + Ideal.log1p (Ideal.exp (-(FloatOps.absf (F := Ideal) (φ := .f32) (-x))))) = lsg x := by
  have h0 : FloatOps.absf (F := Ideal) (φ := .f32) (-x) = FloatOps.absf (F := Ideal) (φ := .f32) x := by
    show max (-x) (- -x) = max x (-x)
    rw [neg_neg, max_comm]
  have h1 := log1p_nonneg (exp_nonneg (-(FloatOps.absf (F := Ideal) (φ := .f32) x)))
  have h2 : (0 : EReal) ≤ max (-x) 0 := le_max_right _ _
  have h3 : -max (-x) 0 = min x 0 := by
    rcases le_total x 0 with h | h
    · rw [max_eq_left (EReal.le_neg_of_le_neg (by simpa using h)), neg_neg, min_eq_left h]
    · rw [max_eq_right (EReal.neg_le_of_neg_le (by simpa using h)), neg_zero, min_eq_right h]
  have b1 : Ideal.log1p (Ideal.exp (-(FloatOps.absf (F := Ideal) (φ := .f32) x))) ≠ ⊥ := fun e => absurd (e ▸ h1) (by simp)
  have b2 : max (-x) 0 ≠ ⊥ := fun e => absurd (e ▸ h2) (by simp)
  rw [h0, EReal.neg_add (Or.inl b2) (Or.inr b1), h3, lsg, zero_sub]

/-- The weight of a pair of rows, from the rows' difference. -/
theorem wt_val (f b : EReal) (n m : ℕ) :
    (if 0 ≤ (((n : ℝ) - (m : ℝ) : ℝ) : EReal) then Ideal.exp (lsg f * max (((n : ℝ) - (m : ℝ) : ℝ) : EReal) 0)
      else Ideal.exp (lsg b * max (-(((n : ℝ) - (m : ℝ) : ℝ) : EReal)) 0)) = ((wt (gam f) (gam b) n m : ℝ) : EReal) := by
  unfold wt
  by_cases h : m ≤ n
  · have h' : (0 : ℝ) ≤ (n : ℝ) - (m : ℝ) := sub_nonneg.2 (by exact_mod_cast h)
    rw [if_pos (EReal.coe_nonneg.2 h'), if_pos h, max_eq_left (EReal.coe_nonneg.2 h'), ← gam_pow, Nat.cast_sub h]
  · have h' : ¬ (0 : ℝ) ≤ (n : ℝ) - (m : ℝ) := fun e => h (by exact_mod_cast sub_nonneg.1 e)
    have h2 : (0 : ℝ) ≤ -((n : ℝ) - (m : ℝ)) := by linarith
    rw [if_neg (fun e => h' (EReal.coe_nonneg.1 e)), if_neg h, ← EReal.coe_neg, max_eq_left (EReal.coe_nonneg.2 h2), ← gam_pow,
      Nat.cast_sub (by omega), neg_sub]

/-! ### The head's tables -/

section Tables

variable {f b : Vec Ideal S1x1x128 .f32} {xf xb : EReal} (hf : ∀ y, f y = xf) (hb : ∀ y, b y = xb)

include hf hb

theorem mask_val (y : S256x256.Idx) : (tables f b).mask y = ((wt (gam xf) (gam xb) (y 0).val (y 1).val : ℝ) : EReal) := by
  have h0 : (y 0).val < 256 := (y 0).isLt
  have h1 : (y 1).val < 256 := (y 1).isLt
  rw [← wt_val]
  show k0_pay4 (F := Ideal) f b y = _
  pointwise [k0_pay4, k0_pay2, k0_pay3]
  rw [word_sub_val (by omega) (by omega)]
  simp only [hf, hb, dite_eq_ite, ite_self, lsg, zero_sub]

theorem qf_val (y : S256x128.Idx) : (tables f b).qf y = ((gam xf ^ ((y 0).val + 1) : ℝ) : EReal) := by
  have h0 : (y 0).val < 256 := (y 0).isLt
  rw [← gam_pow]
  show k0_pay6 (F := Ideal) (k0_pay2 f) y = _
  pointwise [k0_pay6, k0_pay5, k0_pay2]
  rw [word_val (by omega), hf]
  push_cast
  rfl

theorem qb_val (y : S256x128.Idx) : (tables f b).qb y = ((gam xb ^ (256 - (y 0).val) : ℝ) : EReal) := by
  have h0 : (y 0).val < 256 := (y 0).isLt
  rw [← gam_pow]
  show k0_pay7 (F := Ideal) (k0_pay3 b) y = _
  pointwise [k0_pay7, k0_pay5, k0_pay3]
  rw [word_val (by omega), hb, lit_256, ← EReal.coe_sub, Nat.cast_sub (by omega)]
  rfl

theorem kf_val (y : S256x128.Idx) : (tables f b).kf y = ((gam xf ^ (255 - (y 0).val) : ℝ) : EReal) := by
  have h0 : (y 0).val < 256 := (y 0).isLt
  rw [← gam_pow]
  show k0_pay8 (F := Ideal) (k0_pay2 f) y = _
  pointwise [k0_pay8, k0_pay5, k0_pay2]
  rw [word_val (by omega), hf, lit_255, ← EReal.coe_sub, Nat.cast_sub (by omega)]
  rfl

theorem kb_val (y : S256x128.Idx) : (tables f b).kb y = ((gam xb ^ (y 0).val : ℝ) : EReal) := by
  have h0 : (y 0).val < 256 := (y 0).isLt
  rw [← gam_pow]
  show k0_pay9 (F := Ideal) (k0_pay3 b) y = _
  pointwise [k0_pay9, k0_pay5, k0_pay3]
  rw [word_val (by omega), hb]
  rfl

theorem df_val (y : S1x128.Idx) : (tables f b).df y = ((gam xf ^ 256 : ℝ) : EReal) := by
  rw [← gam_pow]
  show k0_pay10 (F := Ideal) (k0_pay2 f) y = _
  pointwise [k0_pay10, k0_pay2]
  rw [hf, lit_256]
  rfl

theorem db_val (y : S1x128.Idx) : (tables f b).db y = ((gam xb ^ 256 : ℝ) : EReal) := by
  rw [← gam_pow]
  show k0_pay12 (F := Ideal) (k0_pay3 b) k0_pay11 y = _
  pointwise [k0_pay12, k0_pay11, k0_pay3]
  rw [hb, lit_256]
  rfl

end Tables

end Cert.Ret

end
-- ==== Proof.Ret.Sums.lean ====
/- Retention: where the queries, keys and values are real, the kernel's rows before the norm and the reference's are the
   same finite sums of reals. -/
module

public import proofs.«01_k».proof.Proof.Ret.Rows
public import proofs.«01_k».proof.Proof.Ret.Math
public import proofs.«01_k».proof.Proof.Ret.Scalar

@[expose] public section

set_option maxRecDepth 65536

noncomputable section

namespace Cert.Ret

open Cert.KernelIdeal Cert.KernelIdeal.Gen Idealize.ShloMosaic Idealize.ShloMosaic.TcCoe Idealize.SL.Sem
open scoped BigOperators

variable (m : (ℓ : Loc nD τ sig) → Buf (Elt Ideal) ℓ)

theorem lit_1e4 : Ideal.ofBits .f32 0x461C4000#32 = ((10000 : ℝ) : EReal) := by
  simp [Ideal.ofBits, Ideal.ieee, -EReal.coe_mul]; norm_num

theorem lit_64 : Ideal.ofBits .f32 0x42800000#32 = ((64 : ℝ) : EReal) := by
  simp [Ideal.ofBits, Ideal.ieee, -EReal.coe_mul]; norm_num

theorem lit_scale : ∃ r : ℝ, Ideal.ofBits .f32 0x3DB504F3#32 = (r : EReal) := by
  simp [Ideal.ofBits, Ideal.ieee, -EReal.coe_mul]

theorem ang_real {n d : ℕ} (hn : n < 4096) (hd : d < 4096) : ∃ r : ℝ, ang n d = (r : EReal) := by
  have h64 : ((64 : ℝ) : EReal) ≠ 0 := by
    rw [← EReal.coe_zero]; exact fun e => absurd (EReal.coe_eq_coe_iff.1 e) (by norm_num)
  refine ⟨(n : ℝ) * Real.rpow 10000 (-(d : ℝ) * (64 : ℝ)⁻¹), ?_⟩
  rw [ang, word_val hn, word_val hd, lit_1e4, lit_64, Ideal.div, if_neg h64, ← EReal.coe_inv, ← EReal.coe_neg, ← EReal.coe_mul]
  rfl

theorem rot_real {x z : EReal} {n d : ℕ} (hn : n < 4096) (hd : d < 4096) (hx : ∃ r : ℝ, x = r) (hz : ∃ r : ℝ, z = r) :
    ∃ r : ℝ, rot x z n d = (r : EReal) := by
  obtain ⟨x, rfl⟩ := hx
  obtain ⟨z, rfl⟩ := hz
  obtain ⟨a, ha⟩ := ang_real hn hd
  obtain ⟨b, hb⟩ := ang_real hn (show d - 64 < 4096 by omega)
  unfold rot
  rw [ha, hb]
  split
  · exact ⟨x * Real.cos a + z * -Real.sin a, by push_cast; rfl⟩
  · exact ⟨x * Real.cos b + z * Real.sin b, by push_cast; rfl⟩

/-- The query, key and value of batch `b`, head `h`, row `n`, lane `d`. -/
def Qe (a0 : FVec Ideal S16384x11264 .bf16) (b h n d : ℕ) : EReal :=
  rot (el a0 (b * 2048 + n) (h * 128 + d)) (el a0 (b * 2048 + n) (h * 128 + (d + 128 - 64) % 128)) n d

def Ke (a0 : FVec Ideal S16384x11264 .bf16) (b h n d : ℕ) : EReal :=
  rot (el a0 (b * 2048 + n) (1024 + h * 128 + d)) (el a0 (b * 2048 + n) (1024 + h * 128 + (d + 128 - 64) % 128)) n d
    * Ideal.ofBits .f32 0x3DB504F3#32

def Ve (a0 : FVec Ideal S16384x11264 .bf16) (b h n d : ℕ) : EReal := el a0 (b * 2048 + n) (2048 + h * 128 + d)

/-- The first 3072 columns are real. -/
def Fin3 (a0 : FVec Ideal S16384x11264 .bf16) : Prop := ∀ r c : ℕ, c < 3072 → ∃ x : ℝ, el a0 r c = (x : EReal)

variable {a0 : FVec Ideal S16384x11264 .bf16}

theorem real_of {x : EReal} (h : ∃ r : ℝ, x = r) : x = ((x.toReal : ℝ) : EReal) := by
  obtain ⟨r, rfl⟩ := h
  rfl

theorem Qe_real (H : Fin3 a0) {b h n d : ℕ} (hh : h < 8) (hn : n < 2048) (hd : d < 128) :
    Qe a0 b h n d = (((Qe a0 b h n d).toReal : ℝ) : EReal) :=
  real_of (rot_real (by omega) (by omega) (H _ _ (by omega)) (H _ _ (by omega)))

theorem Ke_real (H : Fin3 a0) {b h n d : ℕ} (hh : h < 8) (hn : n < 2048) (hd : d < 128) :
    Ke a0 b h n d = (((Ke a0 b h n d).toReal : ℝ) : EReal) := by
  refine real_of ?_
  obtain ⟨r, hr⟩ := rot_real (n := n) (d := d) (by omega) (by omega) (H (b * 2048 + n) (1024 + h * 128 + d) (by omega))
    (H (b * 2048 + n) (1024 + h * 128 + (d + 128 - 64) % 128) (by omega))
  obtain ⟨s, hs⟩ := lit_scale
  exact ⟨r * s, by unfold Ke; rw [hr, hs, EReal.coe_mul]⟩

theorem Ve_real (H : Fin3 a0) {b h n d : ℕ} (hh : h < 8) (hd : d < 128) :
    Ve a0 b h n d = (((Ve a0 b h n d).toReal : ℝ) : EReal) :=
  real_of (H _ _ (by omega))

/-- A head's decay. -/
def dec (a : FVec Ideal S1x8 .f32) (h : ℕ) : EReal := a (ix2 (0 : Fin 1) (Fin.ofNat 8 h))

theorem dec_mk (a : FVec Ideal S1x8 .f32) {z : Fin 1} {h : ℕ} {hh : h < 8} : a (ix2 z ⟨h, hh⟩) = dec a h := by
  unfold dec
  obtain rfl : z = 0 := Subsingleton.elim _ _
  congr 2
  exact Fin.ext (Nat.mod_eq_of_lt hh).symm

theorem dec6 (c : Dev nD) (t : Fin cfg0.N) (y : S1x1x128.Idx) :
    iblk m c 6 (hp t) y = dec (m ((c : Thread nD τ).loc main_arg1)) (t.val / 8) := by
  have ht : t.val < 64 := t.isLt
  have h8 : t.val / 8 < 8 := by omega
  rw [← dec_mk (z := 0) (hh := h8)]
  idx_vars y
  have e1 : iblk m c 6 (hp t) (ix3 y0 y1 y2) = V m c main_v19 (ix3 (⟨t.val / 8, h8⟩ : Fin 8) y1 y2) := by
    blk_ext [iblk, idx (hp t)]
  have e2 : V m c main_v19 = broadcastInDim S8x1x128 ![0, 1, 2] bcast_S8x1x1_S8x1x128_0_1_2
      (broadcastInDim S8x1x1 ![0] bcast_S8_S8x1x1_0 (shapeCast _ (m ((c : Thread nD τ).loc main_arg1) : FVec Ideal S1x8 .f32) shapeCasts_S1x8_S8)) := rfl
  rw [e1, e2]
  pointwise

theorem dec7 (c : Dev nD) (t : Fin cfg0.N) (y : S1x1x128.Idx) :
    iblk m c 7 (hp t) y = dec (m ((c : Thread nD τ).loc main_arg2)) (t.val / 8) := by
  have ht : t.val < 64 := t.isLt
  have h8 : t.val / 8 < 8 := by omega
  rw [← dec_mk (z := 0) (hh := h8)]
  idx_vars y
  have e1 : iblk m c 7 (hp t) (ix3 y0 y1 y2) = V m c main_v22 (ix3 (⟨t.val / 8, h8⟩ : Fin 8) y1 y2) := by
    blk_ext [iblk, idx (hp t)]
  have e2 : V m c main_v22 = broadcastInDim S8x1x128 ![0, 1, 2] bcast_S8x1x1_S8x1x128_0_1_2
      (broadcastInDim S8x1x1 ![0] bcast_S8_S8x1x1_0 (shapeCast _ (m ((c : Thread nD τ).loc main_arg2) : FVec Ideal S1x8 .f32) shapeCasts_S1x8_S8)) := rfl
  rw [e1, e2]
  pointwise

/-- The real sum that one element of the rows before the norm is. -/
def tot (a0 : FVec Ideal S16384x11264 .bf16) (a1 a2 : FVec Ideal S1x8 .f32) (b h n e : ℕ) : ℝ :=
  ∑ r : Fin 2048, (∑ d : Fin 128, (Qe a0 b h n d).toReal * (Ke a0 b h r d).toReal)
    * wt (gam (dec a1 h)) (gam (dec a2 h)) n r * (Ve a0 b h r e).toReal

theorem oref_val (H : Fin3 a0) (a1 a2 : FVec Ideal S1x8 .f32) (j : Cert.ReferenceIdeal.S8x2048x8x128.Idx) :
    OREF a0 a1 a2 j = ((tot a0 a1 a2 (j 0).val (j 2).val (j 1).val (j 3).val : ℝ) : EReal) := by
  idx_vars j
  pointwise [OREF, SREF, MREF, DREF, LREF]
  unfold tot
  rw [← coe_sum]
  refine Finset.sum_congr rfl fun x _ => ?_
  have hd1 : a1 (ix2 0 j2) = dec a1 j2.val := dec_mk a1 (hh := j2.isLt)
  have hd2 : a2 (ix2 0 j2) = dec a2 j2.val := dec_mk a2 (hh := j2.isLt)
  have hj1 : j1.val < 4096 := lt_trans j1.isLt (by norm_num)
  have hx : x.val < 4096 := lt_trans x.isLt (by norm_num)
  have hv : VREF a0 (ix4 j0 x j2 j3) = (((Ve a0 j0.val j2.val x.val j3.val).toReal : ℝ) : EReal) :=
    (vref_val a0 _).trans (Ve_real H j2.isLt j3.isLt)
  have hqk : (∑ d : Fin 128, QREF a0 (ix4 j0 j1 j2 d) * KREF a0 (ix4 j0 x j2 d))
      = ((∑ d : Fin 128, (Qe a0 j0.val j2.val j1.val d).toReal * (Ke a0 j0.val j2.val x.val d).toReal : ℝ) : EReal) := by
    rw [← coe_sum]
    refine Finset.sum_congr rfl fun d _ => ?_
    rw [EReal.coe_mul]
    exact congrArg₂ (· * ·) ((qref_val a0 _).trans (Qe_real H j2.isLt j1.isLt d.isLt))
      ((kref_val a0 _).trans (Ke_real H j2.isLt x.isLt d.isLt))
  rw [hv, hqk, word_val hj1, word_val hx, hd1, hd2, ← EReal.coe_sub]
  simp only [ne_eq, not_true_eq_false, if_false, lsg_eq]
  rw [wt_val, ← EReal.coe_mul, ← EReal.coe_mul, mul_comm]

theorem holds (c : Dev nD) (t : Fin cfg0.N) (H : Fin3 (m ((c : Thread nD τ).loc main_arg0))) :
    Holds (blkAt m c t) (tabAt m c t)
      (fun n d => (Qe (m ((c : Thread nD τ).loc main_arg0)) (t.val % 8) (t.val / 8) n d).toReal)
      (fun n d => (Ke (m ((c : Thread nD τ).loc main_arg0)) (t.val % 8) (t.val / 8) n d).toReal)
      (fun n d => (Ve (m ((c : Thread nD τ).loc main_arg0)) (t.val % 8) (t.val / 8) n d).toReal)
      (gam (dec (m ((c : Thread nD τ).loc main_arg1)) (t.val / 8))) (gam (dec (m ((c : Thread nD τ).loc main_arg2)) (t.val / 8))) := by
  have ht : t.val < 64 := t.isLt
  have h8 : t.val / 8 < 8 := by omega
  have hr (i : Fin 8) (y : S256x128.Idx) : 256 * i.val + (y 0).val < 2048 := by
    have := i.isLt
    have : (y 0).val < 256 := (y 0).isLt
    omega
  exact {
    q := fun i y => (qrow m c t i y).trans (Qe_real H h8 (hr i y) (y 1).isLt)
    k := fun i y => (krow m c t i y).trans (Ke_real H h8 (hr i y) (y 1).isLt)
    v := fun i y => (vrow m c t i y).trans (Ve_real H h8 (y 1).isLt)
    mask := mask_val (dec6 m c t) (dec7 m c t)
    qf := qf_val (dec6 m c t) (dec7 m c t)
    qb := qb_val (dec6 m c t) (dec7 m c t)
    kf := kf_val (dec6 m c t) (dec7 m c t)
    kb := kb_val (dec6 m c t) (dec7 m c t)
    df := df_val (dec6 m c t) (dec7 m c t)
    db := db_val (dec6 m c t) (dec7 m c t) }

/-- The kernel's rows before the norm are the reference's. -/
theorem acc_ref (c : Dev nD) (t : Fin cfg0.N) (H : Fin3 (m ((c : Thread nD τ).loc main_arg0))) (i : Fin 8) (y : S256x128.Idx)
    (j : Cert.ReferenceIdeal.S8x2048x8x128.Idx) (j0 : (j 0 : ℕ) = t.val % 8) (j1 : (j 1 : ℕ) = 256 * i.val + y 0)
    (j2 : (j 2 : ℕ) = t.val / 8) (j3 : (j 3 : ℕ) = y 1) :
    acc (blkAt m c t) (tabAt m c t) i y
      = OREF (m ((c : Thread nD τ).loc main_arg0)) (m ((c : Thread nD τ).loc main_arg1)) (m ((c : Thread nD τ).loc main_arg2)) j := by
  rw [oref_val H, j0, j1, j2, j3]
  exact acc_val (holds m c t H) i y

end Cert.Ret

end
-- ==== Proof.Ret.Value.lean ====
/- Retention: the kernel's final array is the reference's term, where the queries, keys and values are real. -/
module

public import proofs.«01_k».proof.Proof.Ret.Sums

@[expose] public section

set_option maxRecDepth 65536

noncomputable section

namespace Cert.Ret

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

theorem nw_pure (x : FVec Ideal S1x1024 .f32) (a : Fin 8) (b : Fin 1) (d : Fin 128) :
    shapeCast S8x1x128 (shapeCast S1024 x shapeCasts_S1x1024_S1024) shapeCasts_S1024_S8x1x128 (ix3 a b d)
      = x (ix2 (0 : Fin 1) (⟨a.val * 128 + d.val, by omega⟩ : Fin 1024)) := by
  pointwise

theorem nrow (c : Dev nD) (t : Fin cfg0.N) (d : Fin 128) (j : Fin 1024) (hj : j.val = t.val / 8 * 128 + d.val) :
    (blkAt m c t).nw (ix3 (0 : Fin 1) (0 : Fin 1) d) = m ((c : Thread nD τ).loc main_arg3) (ix2 (0 : Fin 1) j) := by
  show iblk m c 8 t (ix3 (0 : Fin 1) (0 : Fin 1) d) = _
  have ht : t.val < 64 := t.isLt
  have h8 : t.val / 8 < 8 := by omega
  have e1 : iblk m c 8 t (ix3 (0 : Fin 1) (0 : Fin 1) d) = V m c main_v24 (ix3 (⟨t.val / 8, h8⟩ : Fin 8) (0 : Fin 1) d) := by
    blk_ext [iblk, idx t]
  have e2 : V m c main_v24 = shapeCast S8x1x128 (shapeCast S1024 (m ((c : Thread nD τ).loc main_arg3) : FVec Ideal S1x1024 .f32) shapeCasts_S1x1024_S1024)
      shapeCasts_S1024_S8x1x128 := rfl
  rw [e1, e2]
  refine (nw_pure _ _ _ _).trans ?_
  have hb : t.val / 8 * 128 + d.val < 1024 := by omega
  obtain rfl : j = ⟨t.val / 8 * 128 + d.val, hb⟩ := Fin.ext hj
  rfl

/-- The norm and gate of one chunk. -/
theorem chunk_pure (a0 : FVec Ideal S16384x11264 .bf16) (O : FVec Ideal Cert.ReferenceIdeal.S8x2048x8x128 .f32) (a3 : FVec Ideal S1x1024 .f32)
    (A : FVec Ideal S256x128 .f32) (G : FVec Ideal S256x128 .bf16) (N : FVec Ideal S1x1x128 .f32)
    (x0 : Fin 256) (x1 : Fin 128) (j0 : Fin 16384) (j1 : Fin 1024) (hx : x1.val = j1.val % 128)
    (hG : G (ix2 x0 x1) = el a0 j0.val (3072 + j1.val))
    (hA : ∀ d : Fin 128, A (ix2 x0 d) = O (ix4 (⟨j0.val / 2048, by omega⟩ : Fin 8) (⟨j0.val % 2048, by omega⟩ : Fin 2048)
      (⟨j1.val / 128, by omega⟩ : Fin 8) d))
    (hN : N (ix3 (0 : Fin 1) (0 : Fin 1) x1) = a3 (ix2 (0 : Fin 1) j1)) :
    k0_pay97 (F := Ideal) N A G (ix2 x0 x1) = REFO a0 O a3 (ix2 j0 j1) := by
  have hb : j1.val % 128 < 128 := by omega
  obtain rfl : x1 = ⟨j1.val % 128, hb⟩ := Fin.ext hx
  have hG' : G (ix2 x0 ⟨j1.val % 128, hb⟩) = a0 (ix2 j0 (⟨3072 + j1.val, by omega⟩ : Fin 11264)) :=
    hG.trans (el_mk a0 (hr := j0.isLt)).symm
  pointwise [k0_pay97, k0_pay96, GREF, P1, REFO]
  simp only [hG', hA, hN, zero_sub]

/-- One chunk's rows are the reference's. -/
theorem chunk (c : Dev nD) (t : Fin cfg0.N) (H : Fin3 (m ((c : Thread nD τ).loc main_arg0))) (i : Fin 8) (x0 : Fin 256) (x1 : Fin 128)
    (j0 : Fin 16384) (j1 : Fin 1024) (e0 : j0.val = t.val % 8 * 2048 + (256 * i.val + x0.val)) (e1 : j1.val = t.val / 8 * 128 + x1.val) :
    outC (blkAt m c t) (tabAt m c t) i (ix2 x0 x1)
      = REF (m ((c : Thread nD τ).loc main_arg0)) (m ((c : Thread nD τ).loc main_arg1)) (m ((c : Thread nD τ).loc main_arg2))
          (m ((c : Thread nD τ).loc main_arg3)) (ix2 j0 j1) := by
  have hx0 := x0.isLt
  have hx1 := x1.isLt
  have hi := i.isLt
  have ht : t.val < 64 := t.isLt
  refine chunk_pure _ _ _ _ _ _ x0 x1 j0 j1 (by omega) ?_ (fun d => ?_) (nrow m c t x1 j1 e1)
  · refine (grow m c t i (ix2 x0 x1)).trans ?_
    rw [e0, e1, ← add_assoc 3072]
    rfl
  · refine acc_ref m c t H i _ _ ?_ ?_ ?_ ?_
    · show j0.val / 2048 = t.val % 8
      omega
    · show j0.val % 2048 = 256 * i.val + x0.val
      omega
    · show j1.val / 128 = t.val / 8
      omega
    · rfl

theorem final (c : Dev nD) (H : Fin3 (m ((c : Thread nD τ).loc main_arg0))) : (dats m 0 c).arrAt 9 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after_9]
  unfold outAt
  have key : ∀ (i : Fin 8) (x : S256x128.Idx), y = (rc i).emb x → outC (blkAt m c t) (tabAt m c t) i x
      = REF (m ((c : Thread nD τ).loc main_arg0)) (m ((c : Thread nD τ).loc main_arg1)) (m ((c : Thread nD τ).loc main_arg2))
          (m ((c : Thread nD τ).loc main_arg3)) (((cfg0.win 9).blk t).view.emb y) := by
    intro i x hx
    subst hx
    idx_vars x
    have ht : t.val < 64 := t.isLt
    have hi := i.isLt
    have e : ((cfg0.win 9).blk t).view.emb ((rc i).emb (ix2 x0 x1)) = ix2 (⟨t.val % 8 * 2048 + (256 * i.val + x0.val), by omega⟩ : Fin 16384)
        (⟨t.val / 8 * 128 + x1.val, by omega⟩ : Fin 1024) := by
      blk_ext [idx t]
    rw [e]
    exact chunk m c t H i x0 x1 _ _ rfl rfl
  refine View.canon_eq_of_allAt _ y _ (cover_out _ _ y) ?_
  have h (i : Fin 8) (x : S256x128.Idx) (hx : (rc i).emb x = y) := key i x hx.symm
  exact List.forall_mem_cons.2 ⟨h 7, List.forall_mem_cons.2 ⟨h 6, List.forall_mem_cons.2 ⟨h 5, List.forall_mem_cons.2 ⟨h 4,
    List.forall_mem_cons.2 ⟨h 3, List.forall_mem_cons.2 ⟨h 2, List.forall_mem_cons.2 ⟨h 1, List.forall_mem_cons.2 ⟨h 0,
      List.forall_mem_nil _⟩⟩⟩⟩⟩⟩⟩⟩

end Cert.Ret

end
-- ==== Proof.Ret.Alg.lean ====
/- Retention: what the precondition gives, and the claim. -/
module

public import proofs.«01_k».proof.Proof.Ret.Value
public import proofs.«01_k».proof.Defs
public import proofs.«01_k».proof.Proof.Gen.KernelIdeal
public import proofs.«01_k».proof.Proof.Gen.ReferenceIdeal

@[expose] public section

set_option maxRecDepth 65536

noncomputable section

namespace Cert.Ret

open Cert.KernelIdeal Cert.KernelIdeal.Gen Idealize.ShloMosaic Idealize.ShloMosaic.TcCoe Idealize.SL.Sem

/-- The predicate's shape facts. -/
instance preFacts : Cert.Pre_finite_qkv.Facts where
  slices_S16384x11264_S16384x3072_0_0 := by decide
  bitsLt_bf16_f32 := by decide
  bcast_S_S16384x3072 := by decide

theorem lit_inf : Ideal.ofBits .f32 0x7F800000#32 = ⊤ := by
  simp [Ideal.ofBits, Ideal.ieee]

/-- The predicate says that the first 3072 columns are real. -/
theorem fin3_of (a0 : FVec Ideal S16384x11264 .bf16) (a1 a2 : FVec Ideal S1x8 .f32) (a3 : FVec Ideal S1x1024 .f32)
    (h : Cert.Pre_finite_qkv.fn (F := Ideal) a0 a1 a2 a3 = fun _ => 1#1) : Fin3 a0 := by
  intro r c hc
  have hc' : c < 3072 := hc
  have e := congrFun h (ix2 (Fin.ofNat 16384 r) (⟨c, hc'⟩ : Fin 3072))
  revert e
  pointwise [Cert.Pre_finite_qkv.fn]
  intro e
  have e1 : (⟨c, lt_trans hc' (by norm_num)⟩ : Fin 11264) = Fin.ofNat 11264 c :=
    Fin.ext (Nat.mod_eq_of_lt (lt_trans hc' (by norm_num))).symm
  rw [e1, lit_inf] at e
  change BitVec.ofBool (decide (max (el a0 r c) (-el a0 r c) < ⊤)) = 1#1 at e
  generalize el a0 r c = x at e ⊢
  induction x using EReal.rec with
  | coe x => exact ⟨x, rfl⟩
  | bot => simp at e
  | top => simp at e

theorem o_eq (W : Valuation Cert.ReferenceIdeal.τ Cert.ReferenceIdeal.sig (Elt Ideal)) : Cert.ReferenceIdeal.Value.res_main_v112 W = OREF (W (Proc.devRef .tc Cert.ReferenceIdeal.main_arg0))
    (W (Proc.devRef .tc Cert.ReferenceIdeal.main_arg1)) (W (Proc.devRef .tc Cert.ReferenceIdeal.main_arg2)) := rfl

theorem g_eq (W : Valuation Cert.ReferenceIdeal.τ Cert.ReferenceIdeal.sig (Elt Ideal)) : Cert.ReferenceIdeal.Value.res_main_v5 W = GREF (W (Proc.devRef .tc Cert.ReferenceIdeal.main_arg0)) := rfl

section Agree

variable (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)
  (h : m' ((c.tc : Thread Cert.ReferenceIdeal.nD Cert.ReferenceIdeal.τ).loc Cert.ReferenceIdeal.main_arg0) = m ((c.tc : Thread nD τ).loc main_arg0) ∧ m' ((c.tc : Thread Cert.ReferenceIdeal.nD Cert.ReferenceIdeal.τ).loc Cert.ReferenceIdeal.main_arg1) = m ((c.tc : Thread nD τ).loc main_arg1) ∧ m' ((c.tc : Thread Cert.ReferenceIdeal.nD Cert.ReferenceIdeal.τ).loc Cert.ReferenceIdeal.main_arg2) = m ((c.tc : Thread nD τ).loc main_arg2) ∧ m' ((c.tc : Thread Cert.ReferenceIdeal.nD Cert.ReferenceIdeal.τ).loc Cert.ReferenceIdeal.main_arg3) = m ((c.tc : Thread nD τ).loc main_arg3))

include h

theorem ref_o : Cert.ReferenceIdeal.Value.res_main_v112 (StableHlo.launchContents m' c)
    = OREF (m ((c : Thread nD τ).loc main_arg0)) (m ((c : Thread nD τ).loc main_arg1)) (m ((c : Thread nD τ).loc main_arg2)) := by
  rw [← h.1, ← h.2.1, ← h.2.2.1]
  exact o_eq _

theorem ref_g : Cert.ReferenceIdeal.Value.res_main_v5 (StableHlo.launchContents m' c) = GREF (m ((c : Thread nD τ).loc main_arg0)) := by
  rw [← h.1]
  exact g_eq _

end Agree

set_option maxHeartbeats 3200000 in
theorem algebraic : Cert.algebraic_KernelIdeal_ReferenceIdeal_pre_finite_qkv := by
  pair_intro
  · run_from Cert.Ret.run_main m g
  · run_from Cert.ReferenceIdeal.Value.run (F := Ideal) m' g'
    have H : Fin3 (m ((c : Thread nD τ).loc main_arg0)) := fin3_of _ _ _ _ (hpre c)
    rw [final m c H, ref_o m m' c (hagree c), ref_g m m' c (hagree c)]
    rfl

end Cert.Ret

end
-- ==== Proof.Inproj.Ref.lean ====
/- Inproj: what the first call's plain reference computes, as one term of its arguments. -/
module

public import proofs.«01_k».proof.Proof.Gen.Reference2Ideal.Run
public import Idealize.ShloMosaic.Lib.Pipeline.ValueKit

@[expose] public section

set_option maxRecDepth 16384

noncomputable section

namespace Cert.Inproj

open Cert.Reference2Ideal Cert.Reference2Ideal.Gen Idealize.ShloMosaic Idealize.ShloMosaic.TcCoe Idealize.SL.Sem

/-- The modulated rows the reference projects. -/
def HREF (a0 : FVec Ideal S8x2048x2048 .f32) (a1 : FVec Ideal S8x12288 .f32) (a2 : FVec Ideal S1x2048 .f32) :
    FVec Ideal S8x2048x2048 .f32 :=
  (addf (mulf (mulf (mulf a0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf a0 a0) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ a2 shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) (extractStridedSlice S8x1x2048 ![0, 0, 2048] (broadcastInDim S8x1x12288 ![0, 2] bcast_S8x12288_S8x1x12288_0_2 a1) slices_S8x1x12288_S8x1x2048_0_0_2048)))) (broadcastInDim S8x2048x2048 ![0, 1, 2] bcast_S8x1x2048_S8x2048x2048_0_1_2 (extractStridedSlice S8x1x2048 ![0, 0, 0] (broadcastInDim S8x1x12288 ![0, 2] bcast_S8x12288_S8x1x12288_0_2 a1) slices_S8x1x12288_S8x1x2048_0_0_0)))

/-- The reference's result as a term of the residual stream, the modulation, the norm weight and the projection. -/
def REF (a0 : FVec Ideal S8x2048x2048 .f32) (a1 : FVec Ideal S8x12288 .f32) (a2 : FVec Ideal S1x2048 .f32)
    (a3 : FVec Ideal S1x2048x11264 .f32) : FVec Ideal S16384x11264 .bf16 :=
  truncf .bf16 (shapeCast _ (Host.dotGeneral dot_S8x2048x2048_S2048x11264_S8x2048x11264_2_0_01_1_n_n none (HREF a0 a1 a2) (shapeCast _ a3 shapeCasts_S1x2048x11264_S2048x11264)) shapeCasts_S8x2048x11264_S16384x11264) bitsLt_bf16_f32

end Cert.Inproj

end
-- ==== Proof.Inproj.Value.lean ====
/- Inproj: the kernel's final array is the reference's term. -/
module

public import proofs.«01_k».proof.Proof.Gen.Kernel2Ideal.Frame
public import proofs.«01_k».proof.Proof.Inproj.Ref
public import Idealize.ShloMosaic.Lib.Pipeline.ValueKit

@[expose] public section

set_option maxRecDepth 16384

noncomputable section

namespace Cert.Inproj

open Cert.Kernel2Ideal Cert.Kernel2Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at every grid point. -/
theorem idx : ∀ t : Fin cfg0.N, win0_0.index t = ![t.val / 11, 0]
    ∧ win0_1.index t = ![t.val / 22, 0, 0]
    ∧ win0_2.index t = ![0, 0]
    ∧ win0_3.index t = ![0, t.val % 11]
    ∧ win0_4.index t = ![t.val / 11, t.val % 11] :=
  (by decide +kernel : ∀ t : Fin grid0.N, _)

/-- The modulated rows that the first point of a run leaves in the scratch. -/
abbrev hrow (c : Dev nD) (t : Fin cfg0.N) : FVec Ideal S1024x2048 .bf16 :=
  k0_pay1 (F := Ideal) (iblk m c 0 t) (iblk m c 2 t) (iblk m c 1 t)

/-- Points of one run read the same rows. -/
theorem hrow_pred (c : Dev nD) (t s : Fin cfg0.N) (h : t.val / 11 = s.val / 11) : hrow m c t = hrow m c s := by
  have e0 : iblk m c 0 t = iblk m c 0 s := by
    funext y
    blk_ext [iblk, idx t, idx s]
  have e1 : iblk m c 1 t = iblk m c 1 s := by
    funext y
    blk_ext [iblk, idx t, idx s]
  have e2 : iblk m c 2 t = iblk m c 2 s := by
    funext y
    blk_ext [iblk, idx t, idx s]
  unfold hrow
  rw [e0, e1, e2]

/-- The scratch after every point holds the modulated rows of the point's block. -/
theorem scratch (c : Dev nD) : ∀ (n : ℕ) (hn : n < cfg0.N), (outsAt0 m c n hn).2 = hrow m c ⟨n, hn⟩ := by
  intro n
  induction n with
  | zero =>
    intro hn
    rw [outsAt0_A m c ⟨0, hn⟩ rfl]
    frame_out
  | succ n ih =>
    intro hn
    by_cases h : (n + 1) % 11 = 0
    · rw [outsAt0_A m c ⟨n + 1, hn⟩ h]
      frame_out
    · rw [outsAt0_B m c ⟨n + 1, hn⟩ h]
      refine (ih (Nat.lt_of_succ_lt hn)).trans (hrow_pred m c _ _ ?_)
      show n / 11 = (n + 1) / 11
      omega

theorem out (c : Dev nD) (t : Fin cfg0.N) : (outsAt0 m c t.val t.isLt).1
    = k0_pay2 (F := Ideal) (hrow m c t) (iblk m c 3 t) := by
  by_cases h : t.val % 11 = 0
  · rw [outsAt0_A m c t h]
    frame_out
  · rw [outsAt0_B m c t h]
    dsimp only
    rw [scratch]
    frame_out
    rw [hrow_pred m c t ⟨t.val - 1, Nat.lt_of_le_of_lt (Nat.sub_le _ _) t.isLt⟩ (by show t.val / 11 = (t.val - 1) / 11; omega)]
    exact congrArg (fun z => k0_pay2 (F := Ideal) z _) (Memref.IsWhole.read_unread _ _)

set_option maxHeartbeats 1000000 in
theorem rows (c : Dev nD) (t : Fin cfg0.N) (i : S1024x2048.Idx) (j : Cert.Reference2Ideal.S8x2048x2048.Idx)
    (h0 : (j 0 : ℕ) = t.val / 22) (h1 : (j 1 : ℕ) = t.val / 11 % 2 * 1024 + i 0) (h2 : (j 2 : ℕ) = i 1) :
    hrow m c t i = HREF (m ((c : Thread nD τ).loc main_arg0)) (m ((c : Thread nD τ).loc main_arg1)) (m ((c : Thread nD τ).loc
        main_arg2)) j := by
  unfold hrow
  pointwise [k0_pay1, HREF]
  blk_point [iblk, V, idx t]

set_option maxHeartbeats 1000000 in
theorem point (c : Dev nD) (t : Fin cfg0.N) (y) :
    k0_pay2 (F := Ideal) (hrow m c t) (iblk m c 3 t) y
      = REF (m ((c : Thread nD τ).loc main_arg0)) (m ((c : Thread nD τ).loc main_arg1)) (m ((c : Thread nD τ).loc
        main_arg2)) (m ((c : Thread nD τ).loc main_arg3)) (((cfg0.win 4).blk t).view.emb y) := by
  generalize hH : hrow m c t = H
  pointwise [k0_pay2, REF]
  subst hH
  refine Fin.sum_fin_congr fun x => ?_
  congr 1
  · refine rows m c t _ _ ?_ ?_ ?_
    all_goals blk_simp [idx t]
    all_goals have hy : (y 0 : ℕ) < 1024 := (y 0).isLt
    all_goals first | omega | (show ((t.val / 11 * 1024 + (y 0 : ℕ)) / 2048 : ℕ) = t.val / 22; omega) | (show ((t.val / 11 * 1024 + (y 0 : ℕ)) % 2048 : ℕ) = t.val / 11 % 2 * 1024 + (y 0 : ℕ); omega)
  · blk_point [iblk, V, idx t]

theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out]
  exact point m c t y

end Cert.Inproj

end
-- ==== Proof.Mix.Ref.lean ====
/- Mix: what the third call's plain reference computes, as one term of its arguments and at every element. -/
module

public import proofs.«01_k».proof.Proof.Gen.Reference3Ideal.Run
public import proofs.«01_k».proof.Proof.Ret.Rows
public import Idealize.ShloMosaic.Lib.Pipeline.ValueKit

@[expose] public section

set_option maxRecDepth 16384

noncomputable section

namespace Cert.Mix

open Cert.Reference3Ideal Cert.Reference3Ideal.Gen Idealize.ShloMosaic Idealize.ShloMosaic.TcCoe Idealize.SL.Sem
open Cert.Ret (el el_mk)
open scoped BigOperators

/-- The projections by sequence. -/
def P1 (a1 : FVec Ideal S16384x11264 .bf16) : FVec Ideal S8x2048x11264 .f32 :=
  shapeCast _ (extf .f32 a1 bitsLt_bf16_f32) shapeCasts_S16384x11264_S8x2048x11264

/-- The product the convolution runs over, a row of zeros before and after every sequence. -/
def PAD (a1 : FVec Ideal S16384x11264 .bf16) : FVec Ideal S8x2050x1024 .f32 :=
  pad S8x2050x1024 ![0, 1, 0] ![0, 1, 0] ![0, 0, 0] (mulf (extractStridedSlice S8x2048x1024 ![0, 0, 5120] (P1 a1) slices_S8x2048x11264_S8x2048x1024_0_0_5120) (extractStridedSlice S8x2048x1024 ![0, 0, 6144] (P1 a1) slices_S8x2048x11264_S8x2048x1024_0_0_6144)) (sitofp .f32 (constantI S_ 32 0#32)) pads_S8x2048x1024_S8x2050x1024_000_110_000 h_S_

/-- The gated convolution's rows. -/
def CONV (a1 : FVec Ideal S16384x11264 .bf16) (a2 : FVec Ideal S1x3x1024 .f32) : FVec Ideal S8x2048x1024 .f32 :=
  mulf (extractStridedSlice S8x2048x1024 ![0, 0, 4096] (P1 a1) slices_S8x2048x11264_S8x2048x1024_0_0_4096) (addf (addf (addf (broadcastInDim S8x2048x1024 ![] bcast_S_S8x2048x1024 (constant S_ .f32 0x00000000#32)) (mulf (broadcastInDim S8x2048x1024 ![0, 1, 2] bcast_S1x1x1024_S8x2048x1024_0_1_2 (broadcastInDim S1x1x1024 ![2] bcast_S1024_S1x1x1024_2 (shapeCast _ (extractStridedSlice S1x1x1024 ![0, 0, 0] a2 slices_S1x3x1024_S1x1x1024_0_0_0) shapeCasts_S1x1x1024_S1024))) (extractStridedSlice S8x2048x1024 ![0, 0, 0] (PAD a1) slices_S8x2050x1024_S8x2048x1024_0_0_0))) (mulf (broadcastInDim S8x2048x1024 ![0, 1, 2] bcast_S1x1x1024_S8x2048x1024_0_1_2 (broadcastInDim S1x1x1024 ![2] bcast_S1024_S1x1x1024_2 (shapeCast _ (extractStridedSlice S1x1x1024 ![0, 1, 0] a2 slices_S1x3x1024_S1x1x1024_0_1_0) shapeCasts_S1x1x1024_S1024))) (extractStridedSlice S8x2048x1024 ![0, 1, 0] (PAD a1) slices_S8x2050x1024_S8x2048x1024_0_1_0))) (mulf (broadcastInDim S8x2048x1024 ![0, 1, 2] bcast_S1x1x1024_S8x2048x1024_0_1_2 (broadcastInDim S1x1x1024 ![2] bcast_S1024_S1x1x1024_2 (shapeCast _ (extractStridedSlice S1x1x1024 ![0, 2, 0] a2 slices_S1x3x1024_S1x1x1024_0_2_0) shapeCasts_S1x1x1024_S1024))) (extractStridedSlice S8x2048x1024 ![0, 2, 0] (PAD a1) slices_S8x2050x1024_S8x2048x1024_0_2_0)))

/-- The reference's result as a term of the retention's output, the projections, the taps and the two output weights. -/
def REF (a0 : FVec Ideal S16384x1024 .bf16) (a1 : FVec Ideal S16384x11264 .bf16) (a2 : FVec Ideal S1x3x1024 .f32)
    (a3 a4 : FVec Ideal S1x1024x2048 .f32) : FVec Ideal S16384x2048 .bf16 :=
  truncf .bf16 (shapeCast _ (addf (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 7168] (P1 a1) slices_S8x2048x11264_S8x2048x2048_0_0_7168))))) (Host.dotGeneral dot_S8x2048x1024_S1024x2048_S8x2048x2048_2_0_01_1_n_n none (shapeCast _ (extf .f32 a0 bitsLt_bf16_f32) shapeCasts_S16384x1024_S8x2048x1024) (shapeCast _ a3 shapeCasts_S1x1024x2048_S1024x2048))) (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 9216] (P1 a1) slices_S8x2048x11264_S8x2048x2048_0_0_9216))))) (Host.dotGeneral dot_S8x2048x1024_S1024x2048_S8x2048x2048_2_0_01_1_n_n none (CONV a1 a2) (shapeCast _ a4 shapeCasts_S1x1024x2048_S1024x2048)))) shapeCasts_S8x2048x2048_S16384x2048) bitsLt_bf16_f32

/-- The convolution's product at a row and a channel. -/
def prod (a1 : FVec Ideal S16384x11264 .bf16) (r d : ℕ) : EReal := el a1 r (5120 + d) * el a1 r (6144 + d)

/-- The gated convolution at a row and a channel: the neighbours beyond the sequence are zero. -/
def cval (a1 : FVec Ideal S16384x11264 .bf16) (a2 : FVec Ideal S1x3x1024 .f32) (r : ℕ) (d : Fin 1024) : EReal :=
  el a1 r (4096 + d.val) * (a2 (ix3 (0 : Fin 1) (0 : Fin 3) d) * (if r % 2048 = 0 then 0 else prod a1 (r - 1) d.val)
    + a2 (ix3 (0 : Fin 1) (1 : Fin 3) d) * prod a1 r d.val
    + a2 (ix3 (0 : Fin 1) (2 : Fin 3) d) * (if r % 2048 = 2047 then 0 else prod a1 (r + 1) d.val))

/-- The padded product at a row: zero on the first and the last. -/
theorem pad_val (a1 : FVec Ideal S16384x11264 .bf16) (b : Fin 8) (s : Fin 2050) (d : Fin 1024) :
    PAD a1 (ix3 b s d) = if s.val = 0 ∨ s.val = 2049 then 0 else prod a1 (b.val * 2048 + (s.val - 1)) d.val := by
  pointwise [PAD, P1]
  have hz : FloatOps.sitofp (F := Ideal) FTy.f32 0#32 = (0 : EReal) := by
    show ((((0#32 : BitVec 32).toInt : ℝ)) : EReal) = 0
    simp
  have hb := b.isLt
  have hd := d.isLt
  have hs := s.isLt
  by_cases h : s.val = 0 ∨ s.val = 2049
  · rw [dif_neg (by omega), if_pos h, hz]
  · rw [dif_pos (by omega), if_neg h, el_mk a1, el_mk a1]
    rfl

theorem conv_val (a1 : FVec Ideal S16384x11264 .bf16) (a2 : FVec Ideal S1x3x1024 .f32) (b : Fin 8) (s : Fin 2048) (d : Fin 1024) :
    CONV a1 a2 (ix3 b s d) = cval a1 a2 (b.val * 2048 + s.val) d := by
  pointwise [CONV, P1]
  simp only [pad_val]
  have hs := s.isLt
  rw [el_mk a1, if_neg (by omega : ¬(1 + s.val = 0 ∨ 1 + s.val = 2049))]
  unfold cval
  have e1 : b.val * 2048 + (1 + s.val - 1) = b.val * 2048 + s.val := by omega
  have e2 : b.val * 2048 + (2 + s.val - 1) = b.val * 2048 + s.val + 1 := by omega
  rw [e1, e2]
  congr 3
  · congr 1
    by_cases h : s.val = 0
    · rw [if_pos (by omega), if_pos (by omega)]
    · rw [if_neg (by omega), if_neg (by omega)]
      congr 1
      omega
  · by_cases h : s.val = 2047
    · rw [if_pos (by omega), if_pos (by omega)]
    · rw [if_neg (by omega), if_neg (by omega)]

/-- The result at a row and a column. -/
theorem ref_val (a0 : FVec Ideal S16384x1024 .bf16) (a1 : FVec Ideal S16384x11264 .bf16) (a2 : FVec Ideal S1x3x1024 .f32)
    (a3 a4 : FVec Ideal S1x1024x2048 .f32) (r : Fin 16384) (j : Fin 2048) :
    REF a0 a1 a2 a3 a4 (ix2 r j)
      = Ideal.div 1 (1 + Ideal.exp (-el a1 r.val (7168 + j.val))) * (∑ k : Fin 1024, a0 (ix2 r k) * a3 (ix3 (0 : Fin 1) k j))
        + Ideal.div 1 (1 + Ideal.exp (-el a1 r.val (9216 + j.val))) * (∑ k : Fin 1024, cval a1 a2 r.val k * a4 (ix3 (0 : Fin 1) k j)) := by
  pointwise [REF, P1]
  simp only [conv_val]
  have er : r.val / 2048 * 2048 + r.val % 2048 = r.val := by omega
  rw [er]
  have e1 := el_mk a1 (hr := r.isLt) (hc := (by omega : 7168 + j.val < 11264))
  have e2 := el_mk a1 (hr := r.isLt) (hc := (by omega : 9216 + j.val < 11264))
  rw [← e1, ← e2]

end Cert.Mix

end
-- ==== Proof.Mix.Value.lean ====
/- Mix: the kernel's final array is the reference's term. -/
module

public import proofs.«01_k».proof.Proof.Gen.Kernel3Ideal.Frame
public import proofs.«01_k».proof.Proof.Mix.Ref
public import Idealize.ShloMosaic.Lib.Pipeline.ValueKit

@[expose] public section

set_option maxRecDepth 65536

noncomputable section

namespace Cert.Mix

open Cert.Kernel3Ideal Cert.Kernel3Ideal.Gen Idealize.ShloMosaic Idealize.ShloMosaic.TcCoe Idealize.SL.Sem
open Idealize.ShloMosaic.Pipeline (Dat)
open Cert.Ret (el el_mk)
open scoped BigOperators

variable (m : (ℓ : Loc nD τ sig) → Buf (Elt Ideal) ℓ)

/-- Every window's block index at every grid point. -/
theorem idx : ∀ t : Fin cfg0.N, win0_0.index t = ![t.val, 0]
    ∧ win0_1.index t = ![t.val, 4]
    ∧ win0_2.index t = ![t.val, 5]
    ∧ win0_3.index t = ![t.val, 6]
    ∧ win0_4.index t = ![32 * t.val - 1, 5]
    ∧ win0_5.index t = ![32 * t.val - 1, 6]
    ∧ win0_6.index t = ![min (32 * t.val + 32) 1023, 5]
    ∧ win0_7.index t = ![min (32 * t.val + 32) 1023, 6]
    ∧ win0_8.index t = ![t.val, 7]
    ∧ win0_9.index t = ![t.val, 8]
    ∧ win0_10.index t = ![t.val, 9]
    ∧ win0_11.index t = ![t.val, 10]
    ∧ win0_12.index t = ![0, 0]
    ∧ win0_13.index t = ![0, 0]
    ∧ win0_14.index t = ![0, 0]
    ∧ win0_15.index t = ![t.val, 0] :=
  (by decide +kernel : ∀ t : Fin grid0.N, _)

/-- The place of a grid point's rows in their sequence, as the kernel counts it. -/
def pos (i : grid0.Coords) : BitVec 32 :=
  let v6 : BitVec 32 := Scalar.select (Scalar.cmpi .eq 4#32 0#32) 1#32 4#32
  let v7 : BitVec 32 := Scalar.remsi (BitVec.ofNat 32 (i 0).val) v6
  Scalar.select (Scalar.andi (Scalar.xori (Scalar.cmpi .slt v7 0#32) (Scalar.cmpi .slt v6 0#32)) (Scalar.cmpi .ne v7 0#32))
    (Scalar.addi v7 v6) v7

theorem pos_first : ∀ t : Fin grid0.N, Scalar.cmpi .eq (pos (grid0.coords t)) 0#32 = if t.val % 4 = 0 then 1#1 else 0#1 := by
  decide +kernel

theorem pos_last : ∀ t : Fin grid0.N, Scalar.cmpi .eq (pos (grid0.coords t)) 3#32 = if t.val % 4 = 3 then 1#1 else 0#1 := by
  decide +kernel

theorem pay2_val (t : Fin grid0.N) (A B : FVec Ideal S1x1024 .bf16) (d : Fin 1024) :
    k0_pay2 (F := Ideal) (grid0.coords t) A B (ix2 (0 : Fin 1) d)
      = if t.val % 4 = 0 then 0 else A (ix2 (0 : Fin 1) d) * B (ix2 (0 : Fin 1) d) := by
  have e : k0_pay2 (F := Ideal) (grid0.coords t) A B = Scalar.select (Scalar.cmpi .eq (pos (grid0.coords t)) 0#32)
      (broadcast S1x1024 (Scalar.ofBits (F := Ideal) .f32 0x00000000#32)) (mulf (extf .f32 A bitsLt_bf16_f32) (extf .f32 B bitsLt_bf16_f32)) := rfl
  rw [e, pos_first]
  by_cases h : t.val % 4 = 0
  · rw [if_pos h, if_pos h]
    pointwise
  · rw [if_neg h, if_neg h]
    pointwise

theorem pay3_val (t : Fin grid0.N) (A B : FVec Ideal S1x1024 .bf16) (d : Fin 1024) :
    k0_pay3 (F := Ideal) (grid0.coords t) A B (ix2 (0 : Fin 1) d)
      = if t.val % 4 = 3 then 0 else A (ix2 (0 : Fin 1) d) * B (ix2 (0 : Fin 1) d) := by
  have e : k0_pay3 (F := Ideal) (grid0.coords t) A B = Scalar.select (Scalar.cmpi .eq (pos (grid0.coords t)) 3#32)
      (broadcast S1x1024 (Scalar.ofBits (F := Ideal) .f32 0x00000000#32)) (mulf (extf .f32 A bitsLt_bf16_f32) (extf .f32 B bitsLt_bf16_f32)) := rfl
  rw [e, pos_last]
  by_cases h : t.val % 4 = 3
  · rw [if_pos h, if_pos h]
    pointwise
  · rw [if_neg h, if_neg h]
    pointwise

theorem row_eq : ∀ x : Fin 512, IntOp.cmpi CmpIPredicate.eq (BitVec.ofNat 32 x.val) 0#32 = if x.val = 0 then 1#1 else 0#1 := by
  decide +kernel

theorem row_eq_last : ∀ x : Fin 512, IntOp.cmpi CmpIPredicate.eq (BitVec.ofNat 32 x.val) 511#32 = if x.val = 511 then 1#1 else 0#1 := by
  decide +kernel

theorem select_if (p : Prop) [Decidable p] (a b : EReal) : Scalar.select (if p then 1#1 else 0#1) a b = if p then a else b := by
  by_cases h : p
  · rw [if_pos h, if_pos h]
    rfl
  · rw [if_neg h, if_neg h]
    rfl

/-- The gated convolution's rows at a grid point, projected. -/
theorem conv_pure (a1 : FVec Ideal S16384x11264 .bf16) (a2 : FVec Ideal S1x3x1024 .f32) (CB CC CU : FVec Ideal S512x1024 .bf16)
    (P N : FVec Ideal S1x1024 .f32) (T : FVec Ideal S3x1024 .f32) (W : FVec Ideal S1024x2048 .bf16) (t : ℕ)
    (hCB : ∀ (x : Fin 512) (d : Fin 1024), CB (ix2 x d) = el a1 (t * 512 + x.val) (4096 + d.val))
    (hCC : ∀ (x : Fin 512) (d : Fin 1024), CC (ix2 x d) = el a1 (t * 512 + x.val) (5120 + d.val))
    (hCU : ∀ (x : Fin 512) (d : Fin 1024), CU (ix2 x d) = el a1 (t * 512 + x.val) (6144 + d.val))
    (hP : ∀ d : Fin 1024, P (ix2 (0 : Fin 1) d) = if t % 4 = 0 then 0 else prod a1 (t * 512 - 1) d.val)
    (hN : ∀ d : Fin 1024, N (ix2 (0 : Fin 1) d) = if t % 4 = 3 then 0 else prod a1 (t * 512 + 512) d.val)
    (hT : ∀ (k : Fin 3) (d : Fin 1024), T (ix2 k d) = a2 (ix3 (0 : Fin 1) k d)) (x : Fin 512) (j : Fin 2048) :
    k0_pay7 (F := Ideal) (k0_pay1 CC CU) P N (iota .tc S512x1024 32 [0] iota_S512x1024_d0_w32) k0_pay4 (k0_pay5 CC CU) T CB W (ix2 x j)
      = ∑ k : Fin 1024, cval a1 a2 (t * 512 + x.val) k * W (ix2 k j) := by
  pointwise [k0_pay7, k0_pay1, k0_pay4, k0_pay5]
  simp only [hCB, hCC, hCU, hP, hN, hT]
  refine Finset.sum_congr rfl fun k _ => ?_
  congr 1
  have hx := x.isLt
  rw [row_eq, row_eq_last, select_if, select_if]
  unfold cval
  congr 3
  · congr 1
    by_cases h : x.val = 0
    · rw [if_pos h, h]
      by_cases h' : t % 4 = 0
      · rw [if_pos h', if_pos (by omega)]
      · rw [if_neg h', if_neg (by omega), Nat.add_zero]
    · rw [if_neg h, if_neg (by omega)]
      have e : t * 512 + (x.val + 512 - 1) % 512 = t * 512 + x.val - 1 := by omega
      rw [e]
      rfl
  · by_cases h : x.val = 511
    · rw [if_pos h, h]
      by_cases h' : t % 4 = 3
      · rw [if_pos h', if_pos (by omega)]
      · rw [if_neg h', if_neg (by omega)]
    · rw [if_neg h, if_neg (by omega)]
      have e : t * 512 + (x.val + 512 - 511) % 512 = t * 512 + x.val + 1 := by omega
      rw [e]
      rfl

/-- One half of the output's columns. -/
theorem lo_pure (A B : FVec Ideal S512x2048 .f32) (G1 G2 : FVec Ideal S512x1024 .bf16) (x : Fin 512) (j : Fin 1024) :
    k0_pay10 (F := Ideal) A B (k0_pay8 G1) k0_pay9 G2 (ix2 x j)
      = Ideal.div 1 (1 + Ideal.exp (-G1 (ix2 x j))) * A (ix2 x (⟨j.val, by omega⟩ : Fin 2048))
        + Ideal.div 1 (1 + Ideal.exp (-G2 (ix2 x j))) * B (ix2 x (⟨j.val, by omega⟩ : Fin 2048)) := by
  pointwise [k0_pay10, k0_pay8, k0_pay9]
  simp only [zero_sub]

/-- The other half of the output's columns. -/
theorem hi_pure (A B : FVec Ideal S512x2048 .f32) (G1 G2 : FVec Ideal S512x1024 .bf16) (x : Fin 512) (j : Fin 1024) :
    k0_pay11 (F := Ideal) A B G1 G2 (ix2 x j)
      = Ideal.div 1 (1 + Ideal.exp (-G1 (ix2 x j))) * A (ix2 x (⟨1024 + j.val, by omega⟩ : Fin 2048))
        + Ideal.div 1 (1 + Ideal.exp (-G2 (ix2 x j))) * B (ix2 x (⟨1024 + j.val, by omega⟩ : Fin 2048)) := by
  pointwise [k0_pay11]
  simp only [zero_sub]

theorem ret_pure (X : FVec Ideal S512x1024 .bf16) (W : FVec Ideal S1024x2048 .bf16) (x : Fin 512) (j : Fin 2048) :
    k0_pay6 (F := Ideal) X W (ix2 x j) = ∑ k : Fin 1024, X (ix2 x k) * W (ix2 k j) := by
  pointwise [k0_pay6]

theorem w_pure (a : FVec Ideal S1x1024x2048 .f32) (k : Fin 1024) (j : Fin 2048) :
    truncf .bf16 (shapeCast S1024x2048 a shapeCasts_S1x1024x2048_S1024x2048) bitsLt_bf16_f32 (ix2 k j) = a (ix3 (0 : Fin 1) k j) := by
  pointwise

theorem t_pure (a : FVec Ideal S1x3x1024 .f32) (k : Fin 3) (d : Fin 1024) :
    shapeCast S3x1024 a shapeCasts_S1x3x1024_S3x1024 (ix2 k d) = a (ix3 (0 : Fin 1) k d) := by
  pointwise

theorem p_blk1 (c : Dev nD) (t : Fin cfg0.N) (x : Fin 512) (d : Fin 1024) :
    iblk m c 1 t (ix2 x d) = el (m ((c : Thread nD τ).loc main_arg1)) (t.val * 512 + x.val) (4096 + d.val) := by
  have ht : t.val < 32 := t.isLt
  rw [← el_mk _ (hr := (by omega : t.val * 512 + x.val < 16384)) (hc := (by omega : 4096 + d.val < 11264))]
  blk_ext [iblk, V, idx t]

theorem p_blk2 (c : Dev nD) (t : Fin cfg0.N) (x : Fin 512) (d : Fin 1024) :
    iblk m c 2 t (ix2 x d) = el (m ((c : Thread nD τ).loc main_arg1)) (t.val * 512 + x.val) (5120 + d.val) := by
  have ht : t.val < 32 := t.isLt
  rw [← el_mk _ (hr := (by omega : t.val * 512 + x.val < 16384)) (hc := (by omega : 5120 + d.val < 11264))]
  blk_ext [iblk, V, idx t]

theorem p_blk3 (c : Dev nD) (t : Fin cfg0.N) (x : Fin 512) (d : Fin 1024) :
    iblk m c 3 t (ix2 x d) = el (m ((c : Thread nD τ).loc main_arg1)) (t.val * 512 + x.val) (6144 + d.val) := by
  have ht : t.val < 32 := t.isLt
  rw [← el_mk _ (hr := (by omega : t.val * 512 + x.val < 16384)) (hc := (by omega : 6144 + d.val < 11264))]
  blk_ext [iblk, V, idx t]

theorem p_blk8 (c : Dev nD) (t : Fin cfg0.N) (x : Fin 512) (d : Fin 1024) :
    iblk m c 8 t (ix2 x d) = el (m ((c : Thread nD τ).loc main_arg1)) (t.val * 512 + x.val) (7168 + d.val) := by
  have ht : t.val < 32 := t.isLt
  rw [← el_mk _ (hr := (by omega : t.val * 512 + x.val < 16384)) (hc := (by omega : 7168 + d.val < 11264))]
  blk_ext [iblk, V, idx t]

theorem p_blk9 (c : Dev nD) (t : Fin cfg0.N) (x : Fin 512) (d : Fin 1024) :
    iblk m c 9 t (ix2 x d) = el (m ((c : Thread nD τ).loc main_arg1)) (t.val * 512 + x.val) (8192 + d.val) := by
  have ht : t.val < 32 := t.isLt
  rw [← el_mk _ (hr := (by omega : t.val * 512 + x.val < 16384)) (hc := (by omega : 8192 + d.val < 11264))]
  blk_ext [iblk, V, idx t]

theorem p_blk10 (c : Dev nD) (t : Fin cfg0.N) (x : Fin 512) (d : Fin 1024) :
    iblk m c 10 t (ix2 x d) = el (m ((c : Thread nD τ).loc main_arg1)) (t.val * 512 + x.val) (9216 + d.val) := by
  have ht : t.val < 32 := t.isLt
  rw [← el_mk _ (hr := (by omega : t.val * 512 + x.val < 16384)) (hc := (by omega : 9216 + d.val < 11264))]
  blk_ext [iblk, V, idx t]

theorem p_blk11 (c : Dev nD) (t : Fin cfg0.N) (x : Fin 512) (d : Fin 1024) :
    iblk m c 11 t (ix2 x d) = el (m ((c : Thread nD τ).loc main_arg1)) (t.val * 512 + x.val) (10240 + d.val) := by
  have ht : t.val < 32 := t.isLt
  rw [← el_mk _ (hr := (by omega : t.val * 512 + x.val < 16384)) (hc := (by omega : 10240 + d.val < 11264))]
  blk_ext [iblk, V, idx t]

theorem p_blk4 (c : Dev nD) (t : Fin cfg0.N) (h : t.val % 4 ≠ 0) (d : Fin 1024) :
    iblk m c 4 t (ix2 (15 : Fin 16) d) = el (m ((c : Thread nD τ).loc main_arg1)) (t.val * 512 - 1) (5120 + d.val) := by
  have ht : t.val < 32 := t.isLt
  rw [← el_mk _ (hr := (by omega : t.val * 512 - 1 < 16384)) (hc := (by omega : 5120 + d.val < 11264))]
  blk_ext [iblk, V, idx t]

theorem p_blk5 (c : Dev nD) (t : Fin cfg0.N) (h : t.val % 4 ≠ 0) (d : Fin 1024) :
    iblk m c 5 t (ix2 (15 : Fin 16) d) = el (m ((c : Thread nD τ).loc main_arg1)) (t.val * 512 - 1) (6144 + d.val) := by
  have ht : t.val < 32 := t.isLt
  rw [← el_mk _ (hr := (by omega : t.val * 512 - 1 < 16384)) (hc := (by omega : 6144 + d.val < 11264))]
  blk_ext [iblk, V, idx t]

theorem p_blk6 (c : Dev nD) (t : Fin cfg0.N) (h : t.val % 4 ≠ 3) (d : Fin 1024) :
    iblk m c 6 t (ix2 (0 : Fin 16) d) = el (m ((c : Thread nD τ).loc main_arg1)) (t.val * 512 + 512) (5120 + d.val) := by
  have ht : t.val < 32 := t.isLt
  rw [← el_mk _ (hr := (by omega : t.val * 512 + 512 < 16384)) (hc := (by omega : 5120 + d.val < 11264))]
  blk_ext [iblk, V, idx t]

theorem p_blk7 (c : Dev nD) (t : Fin cfg0.N) (h : t.val % 4 ≠ 3) (d : Fin 1024) :
    iblk m c 7 t (ix2 (0 : Fin 16) d) = el (m ((c : Thread nD τ).loc main_arg1)) (t.val * 512 + 512) (6144 + d.val) := by
  have ht : t.val < 32 := t.isLt
  rw [← el_mk _ (hr := (by omega : t.val * 512 + 512 < 16384)) (hc := (by omega : 6144 + d.val < 11264))]
  blk_ext [iblk, V, idx t]

theorem og_blk (c : Dev nD) (t : Fin cfg0.N) (x : Fin 512) (d : Fin 1024) (r : Fin 16384) (hr : r.val = t.val * 512 + x.val) :
    iblk m c 0 t (ix2 x d) = m ((c : Thread nD τ).loc main_arg0) (ix2 r d) := by
  have hb : t.val * 512 + x.val < 16384 := by omega
  obtain rfl : r = ⟨t.val * 512 + x.val, hb⟩ := Fin.ext hr
  blk_ext [iblk, V, idx t]

theorem tap_blk (c : Dev nD) (t : Fin cfg0.N) (k : Fin 3) (d : Fin 1024) :
    iblk m c 12 t (ix2 k d) = m ((c : Thread nD τ).loc main_arg2) (ix3 (0 : Fin 1) k d) := by
  have e1 : iblk m c 12 t (ix2 k d) = V m c main_v0 (ix2 k d) := by
    blk_ext [iblk, idx t]
  have e2 : V m c main_v0 = shapeCast S3x1024 (m ((c : Thread nD τ).loc main_arg2) : FVec Ideal S1x3x1024 .f32) shapeCasts_S1x3x1024_S3x1024 := rfl
  rw [e1, e2]
  exact t_pure _ _ _

theorem wr_blk (c : Dev nD) (t : Fin cfg0.N) (k : Fin 1024) (j : Fin 2048) :
    iblk m c 13 t (ix2 k j) = m ((c : Thread nD τ).loc main_arg3) (ix3 (0 : Fin 1) k j) := by
  have e1 : iblk m c 13 t (ix2 k j) = V m c main_v2 (ix2 k j) := by
    blk_ext [iblk, idx t]
  have e2 : V m c main_v2 = truncf (F := Ideal) .bf16 (shapeCast S1024x2048 (m ((c : Thread nD τ).loc main_arg3) : FVec Ideal S1x1024x2048 .f32)
      shapeCasts_S1x1024x2048_S1024x2048) bitsLt_bf16_f32 := rfl
  rw [e1, e2]
  exact w_pure _ _ _

theorem wc_blk (c : Dev nD) (t : Fin cfg0.N) (k : Fin 1024) (j : Fin 2048) :
    iblk m c 14 t (ix2 k j) = m ((c : Thread nD τ).loc main_arg4) (ix3 (0 : Fin 1) k j) := by
  have e1 : iblk m c 14 t (ix2 k j) = V m c main_v4 (ix2 k j) := by
    blk_ext [iblk, idx t]
  have e2 : V m c main_v4 = truncf (F := Ideal) .bf16 (shapeCast S1024x2048 (m ((c : Thread nD τ).loc main_arg4) : FVec Ideal S1x1024x2048 .f32)
      shapeCasts_S1x1024x2048_S1024x2048) bitsLt_bf16_f32 := rfl
  rw [e1, e2]
  exact w_pure _ _ _

/-- The two projections of a grid point. -/
abbrev retAt (c : Dev nD) (t : Fin cfg0.N) : FVec Ideal S512x2048 .f32 :=
  k0_pay12 (F := Ideal) (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t)

abbrev convAt (c : Dev nD) (t : Fin cfg0.N) : FVec Ideal S512x2048 .f32 :=
  k0_pay13 (F := Ideal) (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t)

theorem ld0 (X : Vec Ideal S512x1024 .bf16) : View.ld (Val := Elt Ideal) (e' := .bf16) X r0_0 = X := by
  funext y
  change S512x1024.Idx at y
  idx_vars y
  pointwise

theorem ld1 (X : Vec Ideal S16x1024 .bf16) (d : Fin 1024) : View.ld (Val := Elt Ideal) (e' := .bf16) X r0_1 (ix2 (0 : Fin 1) d) = X (ix2 (15 : Fin 16) d) := by
  pointwise

theorem ld2 (X : Vec Ideal S16x1024 .bf16) (d : Fin 1024) : View.ld (Val := Elt Ideal) (e' := .bf16) X r0_2 (ix2 (0 : Fin 1) d) = X (ix2 (0 : Fin 16) d) := by
  pointwise

theorem ld3 (X : Vec Ideal S3x1024 .f32) : View.ld (Val := Elt Ideal) (e' := .f32) X r0_3 = X := by
  funext y
  change S3x1024.Idx at y
  idx_vars y
  pointwise

theorem ld4 (X : Vec Ideal S1024x2048 .bf16) : View.ld (Val := Elt Ideal) (e' := .bf16) X r0_4 = X := by
  funext y
  change S1024x2048.Idx at y
  idx_vars y
  pointwise

theorem ret_val (c : Dev nD) (t : Fin cfg0.N) (x : Fin 512) (j : Fin 2048) (r : Fin 16384) (hr : r.val = t.val * 512 + x.val) :
    retAt m c t (ix2 x j) = ∑ k : Fin 1024, (show EReal from m ((c : Thread nD τ).loc main_arg0) (ix2 r k))
      * (show EReal from m ((c : Thread nD τ).loc main_arg3) (ix3 (0 : Fin 1) k j)) := by
  unfold retAt k0_pay12
  rw [ld0, ld4]
  refine (ret_pure _ _ x j).trans (Finset.sum_congr rfl fun k _ => ?_)
  exact Ideal.mul_congr (og_blk m c t x k r hr) (wr_blk m c t k j)

theorem conv_at (c : Dev nD) (t : Fin cfg0.N) (x : Fin 512) (j : Fin 2048) :
    convAt m c t (ix2 x j) = ∑ k : Fin 1024, cval (m ((c : Thread nD τ).loc main_arg1)) (m ((c : Thread nD τ).loc main_arg2)) (t.val * 512 + x.val) k
      * (show EReal from m ((c : Thread nD τ).loc main_arg4) (ix3 (0 : Fin 1) k j)) := by
  unfold convAt k0_pay13
  rw [ld0, ld0, ld0, ld3, ld4]
  refine (conv_pure (m ((c : Thread nD τ).loc main_arg1)) (m ((c : Thread nD τ).loc main_arg2)) _ _ _ _ _ _ _ t.val (p_blk1 m c t) (p_blk2 m c t)
    (p_blk3 m c t) (fun d => ?_) (fun d => ?_) (tap_blk m c t) x j).trans (Finset.sum_congr rfl fun k _ => ?_)
  · refine (pay2_val t _ _ d).trans ?_
    rw [ld1, ld1]
    by_cases h : t.val % 4 = 0
    · rw [if_pos h, if_pos h]
    · rw [if_neg h, if_neg h]
      exact Ideal.mul_congr (p_blk4 m c t h d) (p_blk5 m c t h d)
  · refine (pay3_val t _ _ d).trans ?_
    rw [ld2, ld2]
    by_cases h : t.val % 4 = 3
    · rw [if_pos h, if_pos h]
    · rw [if_neg h, if_neg h]
      exact Ideal.mul_congr (p_blk6 m c t h d) (p_blk7 m c t h d)
  · exact Ideal.mul_congr rfl (wc_blk m c t k j)

theorem final (c : Dev nD) : (dats m 0 c).arrAt 15 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t hf y => ?_
  blk_simp
  rw [after0_15]
  unfold out0_15
  have ht : t.val < 32 := t.isLt
  refine View.canon_eq_of_allAt _ y _ (cover0_15 _ _ y) (List.forall_mem_cons.2 ⟨fun x hx => ?_, List.forall_mem_cons.2 ⟨fun x hx => ?_, List.forall_mem_nil _⟩⟩)
  · subst hx
    change S512x1024.Idx at x
    idx_vars x
    have e : ((cfg0.win 15).blk t).view.emb (r0_6.emb (ix2 x0 x1)) = ix2 (⟨t.val * 512 + x0.val, by omega⟩ : Fin 16384) (⟨1024 + x1.val, by omega⟩ : Fin 2048) := by
      blk_ext [idx t]
    rw [e]
    refine (hi_pure (retAt m c t) (convAt m c t) _ _ x0 x1).trans ((ref_val _ _ _ _ _ _ _).trans ?_).symm
    rw [ret_val m c t x0 _ ⟨t.val * 512 + x0.val, by omega⟩ rfl, conv_at, ld0, ld0, p_blk9, p_blk11]
    show _ + _ = _ + _
    rw [← Nat.add_assoc, ← Nat.add_assoc]
  · subst hx
    change S512x1024.Idx at x
    idx_vars x
    have e : ((cfg0.win 15).blk t).view.emb (r0_5.emb (ix2 x0 x1)) = ix2 (⟨t.val * 512 + x0.val, by omega⟩ : Fin 16384) (⟨x1.val, by omega⟩ : Fin 2048) := by
      blk_ext [idx t]
    rw [e]
    refine (lo_pure (retAt m c t) (convAt m c t) _ _ x0 x1).trans ((ref_val _ _ _ _ _ _ _).trans ?_).symm
    rw [ret_val m c t x0 _ ⟨t.val * 512 + x0.val, by omega⟩ rfl, conv_at, ld0, ld0, p_blk8, p_blk10]

end Cert.Mix

end
-- ==== Proof.Outproj.Ref.lean ====
/- Outproj: what the fourth call's plain reference computes, as terms of its arguments. -/
module

public import proofs.«01_k».proof.Proof.Gen.Reference4Ideal.Run
public import Idealize.ShloMosaic.Lib.Pipeline.ValueKit

@[expose] public section

set_option maxRecDepth 16384

noncomputable section

namespace Cert.Outproj

open Cert.Reference4Ideal Cert.Reference4Ideal.Gen Idealize.ShloMosaic Idealize.ShloMosaic.TcCoe Idealize.SL.Sem

/-- The residual stream after the gated output projection. -/
def X1REF (a0 : FVec Ideal S16384x2048 .bf16) (a1 : FVec Ideal S8x2048x2048 .f32) (a2 : FVec Ideal S8x12288 .f32)
    (a4 : FVec Ideal S1x2048x2048 .f32) : FVec Ideal S8x2048x2048 .f32 :=
  (addf a1 (mulf (broadcastInDim S8x2048x2048 ![0, 1, 2] bcast_S8x1x2048_S8x2048x2048_0_1_2 (extractStridedSlice S8x1x2048 ![0, 0, 4096] (broadcastInDim S8x1x12288 ![0, 2] bcast_S8x12288_S8x1x12288_0_2 a2) slices_S8x1x12288_S8x1x2048_0_0_4096)) (Host.dotGeneral dot_S8x2048x2048_S2048x2048_S8x2048x2048_2_0_01_1_n_n none (shapeCast _ (extf .f32 a0 bitsLt_bf16_f32) shapeCasts_S16384x2048_S8x2048x2048) (shapeCast _ a4 shapeCasts_S1x2048x2048_S2048x2048))))

/-- Its rows normalised and modulated: the tokens the experts see. -/
def HREF (a0 : FVec Ideal S16384x2048 .bf16) (a1 : FVec Ideal S8x2048x2048 .f32) (a2 : FVec Ideal S8x12288 .f32) (a3 : FVec Ideal S1x2048 .f32)
    (a4 : FVec Ideal S1x2048x2048 .f32) : FVec Ideal S8x2048x2048 .f32 :=
  (addf (mulf (mulf (mulf (X1REF a0 a1 a2 a4) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (X1REF a0 a1 a2 a4) (X1REF a0 a1 a2 a4)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ a3 shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) (extractStridedSlice S8x1x2048 ![0, 0, 8192] (broadcastInDim S8x1x12288 ![0, 2] bcast_S8x12288_S8x1x12288_0_2 a2) slices_S8x1x12288_S8x1x2048_0_0_8192)))) (broadcastInDim S8x2048x2048 ![0, 1, 2] bcast_S8x1x2048_S8x2048x2048_0_1_2 (extractStridedSlice S8x1x2048 ![0, 0, 6144] (broadcastInDim S8x1x12288 ![0, 2] bcast_S8x12288_S8x1x12288_0_2 a2) slices_S8x1x12288_S8x1x2048_0_0_6144)))

/-- The first result: the residual stream, one row per token. -/
def REF0 (a0 : FVec Ideal S16384x2048 .bf16) (a1 : FVec Ideal S8x2048x2048 .f32) (a2 : FVec Ideal S8x12288 .f32)
    (a4 : FVec Ideal S1x2048x2048 .f32) : FVec Ideal S16384x2048 .f32 :=
  shapeCast _ (X1REF a0 a1 a2 a4) shapeCasts_S8x2048x2048_S16384x2048

/-- The second result: every token as sixteen rows of 128, the two halves of the features alternating. -/
def REF1 (a0 : FVec Ideal S16384x2048 .bf16) (a1 : FVec Ideal S8x2048x2048 .f32) (a2 : FVec Ideal S8x12288 .f32) (a3 : FVec Ideal S1x2048 .f32)
    (a4 : FVec Ideal S1x2048x2048 .f32) : FVec Ideal S262144x128 .bf16 :=
  truncf .bf16 (shapeCast _ (transpose S16384x8x2x128 [0, 2, 1, 3] (shapeCast _ (shapeCast _ (HREF a0 a1 a2 a3 a4) shapeCasts_S8x2048x2048_S16384x2048) shapeCasts_S16384x2048_S16384x2x8x128) transposes_S16384x2x8x128_S16384x8x2x128_0_2_1_3) shapeCasts_S16384x8x2x128_S262144x128) bitsLt_bf16_f32

/-- The third result: the router's logits, one column per token. -/
def REF2 (a0 : FVec Ideal S16384x2048 .bf16) (a1 : FVec Ideal S8x2048x2048 .f32) (a2 : FVec Ideal S8x12288 .f32) (a3 : FVec Ideal S1x2048 .f32)
    (a4 : FVec Ideal S1x2048x2048 .f32) (a5 : FVec Ideal S1x2048x64 .f32) : FVec Ideal S64x16384 .f32 :=
  transpose S64x16384 [1, 0] (Host.dotGeneral dot_S16384x2048_S2048x64_S16384x64_1_0_0_1_n_n none (shapeCast _ (HREF a0 a1 a2 a3 a4) shapeCasts_S8x2048x2048_S16384x2048) (shapeCast _ a5 shapeCasts_S1x2048x64_S2048x64)) transposes_S16384x64_S64x16384_1_0

end Cert.Outproj

end
-- ==== Proof.Outproj.Real.lean ====
/- Outproj: every token's features are real when the norm weight and the modulation's shift and scale are. -/
module

public import proofs.«01_k».proof.Proof.Outproj.Ref
public import Idealize.ShloMosaic.Lib.Pipeline.ValueKit

@[expose] public section

set_option maxRecDepth 16384

noncomputable section

namespace Cert.Outproj

open Cert.Reference4Ideal Cert.Reference4Ideal.Gen Idealize.ShloMosaic
open scoped BigOperators

/-- An extended real that is a real. -/
def Re (x : EReal) : Prop := ∃ r : ℝ, x = (r : EReal)

theorem Re.add {x y : EReal} (hx : Re x) (hy : Re y) : Re (x + y) := by
  obtain ⟨a, rfl⟩ := hx
  obtain ⟨b, rfl⟩ := hy
  exact ⟨a + b, (EReal.coe_add a b).symm⟩

theorem Re.mul {x y : EReal} (hx : Re x) (hy : Re y) : Re (x * y) := by
  obtain ⟨a, rfl⟩ := hx
  obtain ⟨b, rfl⟩ := hy
  exact ⟨a * b, (EReal.coe_mul a b).symm⟩

theorem Re.sub_self {x : EReal} (hx : Re x) : x - x = 0 := by
  obtain ⟨a, rfl⟩ := hx
  rw [← EReal.coe_sub, _root_.sub_self]
  rfl

theorem sum_real {n : ℕ} (f : Fin n → ℝ) : (∑ x, ((f x : ℝ) : EReal)) = ((∑ x, f x : ℝ) : EReal) :=
  (map_sum (⟨⟨Real.toEReal, EReal.coe_zero⟩, EReal.coe_add⟩ : ℝ →+ EReal) f Finset.univ).symm

theorem Re.sum {n : ℕ} {f : Fin n → EReal} (h : ∀ x, Re (f x)) : Re (∑ x, f x) := by
  choose g hg using h
  exact ⟨∑ x, g x, by simp only [hg]; exact sum_real g⟩

/-- The reciprocal root of a mean of squares plus something positive is real. -/
theorem Re.rsqrt {n : ℕ} {f : Fin n → EReal} (h : ∀ x, Re (f x)) {a b : ℝ} (ha : 0 < a) (hb : 0 < b) :
    Re (Ideal.rsqrt (Ideal.div (∑ x, f x * f x) (a : EReal) + (b : EReal))) := by
  choose g hg using h
  have pos : 0 < (∑ x, g x * g x) * (1 / a) + b := by
    have h1 : 0 ≤ ∑ x, g x * g x := Finset.sum_nonneg fun x _ => mul_self_nonneg (g x)
    have h2 : 0 ≤ 1 / a := by positivity
    have h3 := mul_nonneg h1 h2
    linarith
  simp only [hg, ← EReal.coe_mul]
  rw [sum_real, Ideal.div_coe ha.ne', ← EReal.coe_mul, ← EReal.coe_add, Ideal.rsqrt_coe, if_neg (not_lt.mpr pos.le), if_neg pos.ne']
  exact ⟨_, rfl⟩

theorem lit_dim : ∃ a : ℝ, 0 < a ∧ Ideal.ofBits .f32 0x45000000#32 = (a : EReal) := by
  refine ⟨8388608 * (2 ^ 12)⁻¹, by positivity, ?_⟩
  simp [Ideal.ofBits, Ideal.ieee]

theorem lit_eps : ∃ a : ℝ, 0 < a ∧ Ideal.ofBits .f32 0x358637BD#32 = (a : EReal) := by
  refine ⟨8796093 * (2 ^ 43)⁻¹, by positivity, ?_⟩
  simp [Ideal.ofBits, Ideal.ieee]

theorem one_real : Re (1 : EReal) := ⟨1, rfl⟩

theorem mul_self_nonneg' (x : EReal) : 0 ≤ x * x := by
  induction x using EReal.rec with
  | coe x => rw [← EReal.coe_mul]; exact_mod_cast mul_self_nonneg x
  | bot => rw [EReal.bot_mul_bot]; exact le_top
  | top => rw [EReal.top_mul_top]; exact le_top

/-- What is not real squares to the top. -/
theorem mul_self_top {x : EReal} (h : ¬ Re x) : x * x = ⊤ := by
  induction x using EReal.rec with
  | coe x => exact absurd ⟨x, rfl⟩ h
  | bot => exact EReal.bot_mul_bot
  | top => exact EReal.top_mul_top

/-- An entry over the root of its row's mean square is real whatever the row holds: a row with an infinite entry
    has the reciprocal root zero. -/
theorem Re.normed {n : ℕ} (f : Fin n → EReal) {a b : ℝ} (ha : 0 < a) (hb : 0 < b) (j : Fin n) :
    Re (f j * Ideal.rsqrt (Ideal.div (∑ x, f x * f x) (a : EReal) + (b : EReal))) := by
  by_cases h : ∀ x, Re (f x)
  · exact (h j).mul (Re.rsqrt h ha hb)
  · obtain ⟨k, hk⟩ := not_forall.mp h
    have e : ∑ x, f x * f x = ⊤ := by
      refine top_le_iff.mp ?_
      rw [← mul_self_top hk]
      exact Finset.single_le_sum (f := fun x => f x * f x) (fun x _ => mul_self_nonneg' (f x)) (Finset.mem_univ k)
    have hp : (0 : ℝ) < 1 / a := by positivity
    rw [e, Ideal.div_coe ha.ne', EReal.top_mul_coe_of_pos hp, EReal.top_add_coe, Ideal.rsqrt_top, mul_zero]
    exact ⟨0, rfl⟩

theorem h_real (a0 : FVec Ideal S16384x2048 .bf16) (a1 : FVec Ideal S8x2048x2048 .f32) (a2 : FVec Ideal S8x12288 .f32) (a3 : FVec Ideal S1x2048 .f32)
    (a4 : FVec Ideal S1x2048x2048 .f32) (h2 : ∀ (b : Fin 8) (j : Fin 12288), 6144 ≤ j.val → j.val < 10240 → Re (a2 (ix2 b j))) (h3 : ∀ i, Re (a3 i))
    (b : Fin 8) (p d : Fin 2048) : Re (HREF a0 a1 a2 a3 a4 (ix3 b p d)) := by
  pointwise [HREF]
  obtain ⟨u, hu, eu⟩ := lit_dim
  obtain ⟨v, hv, ev⟩ := lit_eps
  have R := Re.normed (fun x : Fin 2048 => X1REF a0 a1 a2 a4 (ix3 b p x)) hu hv d
  rw [← eu, ← ev] at R
  refine ((R.mul (h3 _)).mul (one_real.add (h2 _ _ ?_ ?_))).add (h2 _ _ ?_ ?_)
  all_goals have hd := d.isLt
  all_goals dsimp only
  all_goals omega

end Cert.Outproj

end
-- ==== Proof.Outproj.Value.lean ====
/- Outproj: the kernel's final arrays are the reference's terms. -/
module

public import proofs.«01_k».proof.Proof.Gen.Kernel4Ideal.Frame
public import proofs.«01_k».proof.Proof.Outproj.Ref
public import proofs.«01_k».proof.Proof.Outproj.Real
public import Idealize.ShloMosaic.Lib.Pipeline.ValueKit

@[expose] public section

set_option maxRecDepth 65536

noncomputable section

namespace Cert.Outproj

open Cert.Kernel4Ideal Cert.Kernel4Ideal.Gen Idealize.ShloMosaic Idealize.ShloMosaic.TcCoe Idealize.SL.Sem
open Idealize.ShloMosaic.Pipeline (Dat)
open scoped BigOperators

/-! ## The scratch of interleaved halves -/

theorem pay9_val (A B : FVec Ideal S512x1024 .bf16) (q : Fin 512) (p : Fin 2) (l : Fin 128) :
    k0_pay9 (F := Ideal) A B (ix3 q p l) = if p.val = 0 then A (ix2 q ⟨128 + l.val, by omega⟩) else B (ix2 q ⟨128 + l.val, by omega⟩) := by
  fin_cases p <;> pointwise [k0_pay9]

theorem pay10_val (A B : FVec Ideal S512x1024 .bf16) (q : Fin 512) (p : Fin 2) (l : Fin 128) :
    k0_pay10 (F := Ideal) A B (ix3 q p l) = if p.val = 0 then A (ix2 q ⟨256 + l.val, by omega⟩) else B (ix2 q ⟨256 + l.val, by omega⟩) := by
  fin_cases p <;> pointwise [k0_pay10]

theorem pay11_val (A B : FVec Ideal S512x1024 .bf16) (q : Fin 512) (p : Fin 2) (l : Fin 128) :
    k0_pay11 (F := Ideal) A B (ix3 q p l) = if p.val = 0 then A (ix2 q ⟨384 + l.val, by omega⟩) else B (ix2 q ⟨384 + l.val, by omega⟩) := by
  fin_cases p <;> pointwise [k0_pay11]

theorem pay15_val (A B : FVec Ideal S512x1024 .bf16) (q : Fin 512) (p : Fin 2) (l : Fin 128) :
    k0_pay15 (F := Ideal) A B (ix3 q p l) = if p.val = 0 then A (ix2 q ⟨640 + l.val, by omega⟩) else B (ix2 q ⟨640 + l.val, by omega⟩) := by
  fin_cases p <;> pointwise [k0_pay15]

theorem pay16_val (A B : FVec Ideal S512x1024 .bf16) (q : Fin 512) (p : Fin 2) (l : Fin 128) :
    k0_pay16 (F := Ideal) A B (ix3 q p l) = if p.val = 0 then A (ix2 q ⟨768 + l.val, by omega⟩) else B (ix2 q ⟨768 + l.val, by omega⟩) := by
  fin_cases p <;> pointwise [k0_pay16]

theorem pay17_val (A B : FVec Ideal S512x1024 .bf16) (q : Fin 512) (p : Fin 2) (l : Fin 128) :
    k0_pay17 (F := Ideal) A B (ix3 q p l) = if p.val = 0 then A (ix2 q ⟨896 + l.val, by omega⟩) else B (ix2 q ⟨896 + l.val, by omega⟩) := by
  fin_cases p <;> pointwise [k0_pay17]

theorem pay14_val (A B : FVec Ideal S512x1024 .bf16) (q : Fin 512) (p : Fin 2) (l : Fin 128) :
    k0_pay14 (F := Ideal) (k0_pay12 A) (k0_pay13 B) (ix3 q p l) = if p.val = 0 then A (ix2 q ⟨512 + l.val, by omega⟩) else B (ix2 q ⟨512 + l.val, by omega⟩) := by
  fin_cases p <;> pointwise [k0_pay14, k0_pay12, k0_pay13]

theorem pay8_val (B : FVec Ideal S512x1024 .bf16) (A0 : FVec Ideal S512x128 .bf16) (q : Fin 512) (p : Fin 2) (l : Fin 128) :
    k0_pay8 (F := Ideal) B A0 (ix3 q p l) = if p.val = 0 then A0 (ix2 q l) else B (ix2 q ⟨l.val, by omega⟩) := by
  fin_cases p <;> pointwise [k0_pay8]

theorem pay18_val (X : Vec Ideal S4096x2x128 .bf16) (n : Fin 8192) (l : Fin 128) :
    k0_pay18 (F := Ideal) X (ix2 n l) = X (ix3 (⟨n.val / 2, by omega⟩ : Fin 4096) (⟨n.val % 2, by omega⟩ : Fin 2) l) := by
  pointwise [k0_pay18]
  split
  · next h => exact congrArg (fun p => X (ix3 (⟨n.val / 2, by omega⟩ : Fin 4096) p l)) (Fin.ext h.symm)
  · next h => exact congrArg (fun p => X (ix3 (⟨n.val / 2, by omega⟩ : Fin 4096) p l)) (Fin.ext (by show 1 = n.val % 2; omega))

/-- The eight strided writes to the scratch, last first. -/
def pieces (A B : FVec Ideal S512x1024 .bf16) (A0 : FVec Ideal S512x128 .bf16) : List (View.Piece (Elt Ideal) S4096x2x128 .bf16) :=
  [⟨{ off := ![7, 0, 0], size := ![512, 2, 128], stride := ![8, 1, 1], inb := inb_S4096x2x128_S512x2x128_7_0_0_s_8_1_1, stride_pos := spos_8_1_1 }, k0_pay17 A B⟩,
    ⟨{ off := ![6, 0, 0], size := ![512, 2, 128], stride := ![8, 1, 1], inb := inb_S4096x2x128_S512x2x128_6_0_0_s_8_1_1, stride_pos := spos_8_1_1 }, k0_pay16 A B⟩,
    ⟨{ off := ![5, 0, 0], size := ![512, 2, 128], stride := ![8, 1, 1], inb := inb_S4096x2x128_S512x2x128_5_0_0_s_8_1_1, stride_pos := spos_8_1_1 }, k0_pay15 A B⟩,
    ⟨{ off := ![4, 0, 0], size := ![512, 2, 128], stride := ![8, 1, 1], inb := inb_S4096x2x128_S512x2x128_4_0_0_s_8_1_1, stride_pos := spos_8_1_1 }, k0_pay14 (k0_pay12 A) (k0_pay13 B)⟩,
    ⟨{ off := ![3, 0, 0], size := ![512, 2, 128], stride := ![8, 1, 1], inb := inb_S4096x2x128_S512x2x128_3_0_0_s_8_1_1, stride_pos := spos_8_1_1 }, k0_pay11 A B⟩,
    ⟨{ off := ![2, 0, 0], size := ![512, 2, 128], stride := ![8, 1, 1], inb := inb_S4096x2x128_S512x2x128_2_0_0_s_8_1_1, stride_pos := spos_8_1_1 }, k0_pay10 A B⟩,
    ⟨{ off := ![1, 0, 0], size := ![512, 2, 128], stride := ![8, 1, 1], inb := inb_S4096x2x128_S512x2x128_1_0_0_s_8_1_1, stride_pos := spos_8_1_1 }, k0_pay9 A B⟩,
    ⟨{ off := ![0, 0, 0], size := ![512, 2, 128], stride := ![8, 1, 1], inb := inb_S4096x2x128_S512x2x128_0_0_0_s_8_1_1, stride_pos := spos_8_1_1 }, k0_pay8 B A0⟩]

theorem out2 (m : (ℓ : Loc nD τ sig) → Buf (Elt Ideal) ℓ) (c : Dev nD) (t : Fin cfg0.N) : (outsAt0 m c t).2.1
    = k0_pay18 (F := Ideal) (View.canon (pieces (k0_pay5 (F := Ideal) (iblk m c 0 t) (iblk m c 4 t) (iblk m c 2 t) (iblk m c 1 t) (iblk m c 3 t)) (k0_pay6 (F := Ideal) (iblk m c 0 t) (iblk m c 4 t) (iblk m c 2 t) (iblk m c 1 t) (iblk m c 3 t)) (k0_pay7 (F := Ideal) (iblk m c 0 t) (iblk m c 4 t) (iblk m c 2 t) (iblk m c 1 t) (iblk m c 3 t)))) := by
  unfold outsAt0
  frame_out
  rw [View.readCov_eq_canon']
  refine congrArg (k0_pay18 (F := Ideal)) (funext fun j => ?_)
  refine congrArg (View.canon _) ?_
  refine funext fun a => Fin.ext ?_
  rw [LoadRect.idx_apply]
  fin_cases a
  · show 0 + 1 * (j 0).val = (j 0).val
    omega
  · show 0 + 1 * (j 1).val = (j 1).val
    omega
  · show 0 + 1 * (j 2).val = (j 2).val
    omega

theorem scratch_val (A B : FVec Ideal S512x1024 .bf16) (A0 : FVec Ideal S512x128 .bf16) (hA : ∀ q l, A0 (ix2 q l) = A (ix2 q ⟨l.val, by omega⟩))
    (w : Fin 4096) (p : Fin 2) (l : Fin 128) :
    View.canon (pieces A B A0) (ix3 w p l) = if p.val = 0 then A (ix2 (⟨w.val / 8, by omega⟩ : Fin 512) ⟨w.val % 8 * 128 + l.val, by omega⟩)
      else B (ix2 (⟨w.val / 8, by omega⟩ : Fin 512) ⟨w.val % 8 * 128 + l.val, by omega⟩) := by
  refine View.canon_eq_of_allAt _ _ _ ?_ ?_
  · unfold pieces
    have hs : w.val % 8 < 8 := Nat.mod_lt _ (by norm_num)
    have key : ∀ k : ℕ, w.val % 8 = k → ∀ a : Fin 3, ∃ j < (![512, 2, 128] : Fin 3 → ℕ) a, ((ix3 w p l : S4096x2x128.Idx) a : ℕ) = (![k, 0, 0] : Fin 3 → ℕ) a + (![8, 1, 1] : Fin 3 → ℕ) a * j := by
      intro k hk a
      fin_cases a
      · exact ⟨w.val / 8, by show w.val / 8 < 512; omega, by show w.val = k + 8 * (w.val / 8); omega⟩
      · exact ⟨p.val, p.isLt, by show p.val = 0 + 1 * p.val; omega⟩
      · exact ⟨l.val, l.isLt, by show l.val = 0 + 1 * l.val; omega⟩
    obtain h | h | h | h | h | h | h | h : w.val % 8 = 7 ∨ w.val % 8 = 6 ∨ w.val % 8 = 5 ∨ w.val % 8 = 4 ∨ w.val % 8 = 3 ∨ w.val % 8 = 2 ∨ w.val % 8 = 1 ∨ w.val % 8 = 0 := by omega
    · exact ⟨_, List.mem_cons_self, (LoadRect.mem_set _).mpr (key 7 h)⟩
    · exact ⟨_, List.mem_cons_of_mem _ (List.mem_cons_self), (LoadRect.mem_set _).mpr (key 6 h)⟩
    · exact ⟨_, List.mem_cons_of_mem _ (List.mem_cons_of_mem _ (List.mem_cons_self)), (LoadRect.mem_set _).mpr (key 5 h)⟩
    · exact ⟨_, List.mem_cons_of_mem _ (List.mem_cons_of_mem _ (List.mem_cons_of_mem _ (List.mem_cons_self))), (LoadRect.mem_set _).mpr (key 4 h)⟩
    · exact ⟨_, List.mem_cons_of_mem _ (List.mem_cons_of_mem _ (List.mem_cons_of_mem _ (List.mem_cons_of_mem _ (List.mem_cons_self)))), (LoadRect.mem_set _).mpr (key 3 h)⟩
    · exact ⟨_, List.mem_cons_of_mem _ (List.mem_cons_of_mem _ (List.mem_cons_of_mem _ (List.mem_cons_of_mem _ (List.mem_cons_of_mem _ (List.mem_cons_self))))), (LoadRect.mem_set _).mpr (key 2 h)⟩
    · exact ⟨_, List.mem_cons_of_mem _ (List.mem_cons_of_mem _ (List.mem_cons_of_mem _ (List.mem_cons_of_mem _ (List.mem_cons_of_mem _ (List.mem_cons_of_mem _ (List.mem_cons_self)))))), (LoadRect.mem_set _).mpr (key 1 h)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (LoadRect.mem_set _).mpr (key 0 h)⟩
  · unfold View.AllAt pieces
    simp only [List.forall_mem_cons]
    refine ⟨?_, ?_, ?_, ?_, ?_, ?_, ?_, ?_, ?_⟩
    · intro x hx
      change S512x2x128.Idx at x
      idx_vars x
      have h0 : 7 + 8 * x0.val = w.val := congrArg (fun z : S4096x2x128.Idx => (z 0).val) hx
      have h1 : 0 + 1 * x1.val = p.val := congrArg (fun z : S4096x2x128.Idx => (z 1).val) hx
      have h2 : 0 + 1 * x2.val = l.val := congrArg (fun z : S4096x2x128.Idx => (z 2).val) hx
      obtain rfl : x1 = p := Fin.ext (by omega)
      obtain rfl : x2 = l := Fin.ext (by omega)
      have e0 : x0 = ⟨w.val / 8, by omega⟩ := Fin.ext (by show x0.val = w.val / 8; omega)
      have e : (⟨896 + x2.val, by omega⟩ : Fin 1024) = ⟨w.val % 8 * 128 + x2.val, by omega⟩ := Fin.ext (by show 896 + x2.val = w.val % 8 * 128 + x2.val; omega)
      refine (pay17_val _ _ _ _ _).trans ?_
      rw [e0, e]
    · intro x hx
      change S512x2x128.Idx at x
      idx_vars x
      have h0 : 6 + 8 * x0.val = w.val := congrArg (fun z : S4096x2x128.Idx => (z 0).val) hx
      have h1 : 0 + 1 * x1.val = p.val := congrArg (fun z : S4096x2x128.Idx => (z 1).val) hx
      have h2 : 0 + 1 * x2.val = l.val := congrArg (fun z : S4096x2x128.Idx => (z 2).val) hx
      obtain rfl : x1 = p := Fin.ext (by omega)
      obtain rfl : x2 = l := Fin.ext (by omega)
      have e0 : x0 = ⟨w.val / 8, by omega⟩ := Fin.ext (by show x0.val = w.val / 8; omega)
      have e : (⟨768 + x2.val, by omega⟩ : Fin 1024) = ⟨w.val % 8 * 128 + x2.val, by omega⟩ := Fin.ext (by show 768 + x2.val = w.val % 8 * 128 + x2.val; omega)
      refine (pay16_val _ _ _ _ _).trans ?_
      rw [e0, e]
    · intro x hx
      change S512x2x128.Idx at x
      idx_vars x
      have h0 : 5 + 8 * x0.val = w.val := congrArg (fun z : S4096x2x128.Idx => (z 0).val) hx
      have h1 : 0 + 1 * x1.val = p.val := congrArg (fun z : S4096x2x128.Idx => (z 1).val) hx
      have h2 : 0 + 1 * x2.val = l.val := congrArg (fun z : S4096x2x128.Idx => (z 2).val) hx
      obtain rfl : x1 = p := Fin.ext (by omega)
      obtain rfl : x2 = l := Fin.ext (by omega)
      have e0 : x0 = ⟨w.val / 8, by omega⟩ := Fin.ext (by show x0.val = w.val / 8; omega)
      have e : (⟨640 + x2.val, by omega⟩ : Fin 1024) = ⟨w.val % 8 * 128 + x2.val, by omega⟩ := Fin.ext (by show 640 + x2.val = w.val % 8 * 128 + x2.val; omega)
      refine (pay15_val _ _ _ _ _).trans ?_
      rw [e0, e]
    · intro x hx
      change S512x2x128.Idx at x
      idx_vars x
      have h0 : 4 + 8 * x0.val = w.val := congrArg (fun z : S4096x2x128.Idx => (z 0).val) hx
      have h1 : 0 + 1 * x1.val = p.val := congrArg (fun z : S4096x2x128.Idx => (z 1).val) hx
      have h2 : 0 + 1 * x2.val = l.val := congrArg (fun z : S4096x2x128.Idx => (z 2).val) hx
      obtain rfl : x1 = p := Fin.ext (by omega)
      obtain rfl : x2 = l := Fin.ext (by omega)
      have e0 : x0 = ⟨w.val / 8, by omega⟩ := Fin.ext (by show x0.val = w.val / 8; omega)
      have e : (⟨512 + x2.val, by omega⟩ : Fin 1024) = ⟨w.val % 8 * 128 + x2.val, by omega⟩ := Fin.ext (by show 512 + x2.val = w.val % 8 * 128 + x2.val; omega)
      refine (pay14_val _ _ _ _ _).trans ?_
      rw [e0, e]
    · intro x hx
      change S512x2x128.Idx at x
      idx_vars x
      have h0 : 3 + 8 * x0.val = w.val := congrArg (fun z : S4096x2x128.Idx => (z 0).val) hx
      have h1 : 0 + 1 * x1.val = p.val := congrArg (fun z : S4096x2x128.Idx => (z 1).val) hx
      have h2 : 0 + 1 * x2.val = l.val := congrArg (fun z : S4096x2x128.Idx => (z 2).val) hx
      obtain rfl : x1 = p := Fin.ext (by omega)
      obtain rfl : x2 = l := Fin.ext (by omega)
      have e0 : x0 = ⟨w.val / 8, by omega⟩ := Fin.ext (by show x0.val = w.val / 8; omega)
      have e : (⟨384 + x2.val, by omega⟩ : Fin 1024) = ⟨w.val % 8 * 128 + x2.val, by omega⟩ := Fin.ext (by show 384 + x2.val = w.val % 8 * 128 + x2.val; omega)
      refine (pay11_val _ _ _ _ _).trans ?_
      rw [e0, e]
    · intro x hx
      change S512x2x128.Idx at x
      idx_vars x
      have h0 : 2 + 8 * x0.val = w.val := congrArg (fun z : S4096x2x128.Idx => (z 0).val) hx
      have h1 : 0 + 1 * x1.val = p.val := congrArg (fun z : S4096x2x128.Idx => (z 1).val) hx
      have h2 : 0 + 1 * x2.val = l.val := congrArg (fun z : S4096x2x128.Idx => (z 2).val) hx
      obtain rfl : x1 = p := Fin.ext (by omega)
      obtain rfl : x2 = l := Fin.ext (by omega)
      have e0 : x0 = ⟨w.val / 8, by omega⟩ := Fin.ext (by show x0.val = w.val / 8; omega)
      have e : (⟨256 + x2.val, by omega⟩ : Fin 1024) = ⟨w.val % 8 * 128 + x2.val, by omega⟩ := Fin.ext (by show 256 + x2.val = w.val % 8 * 128 + x2.val; omega)
      refine (pay10_val _ _ _ _ _).trans ?_
      rw [e0, e]
    · intro x hx
      change S512x2x128.Idx at x
      idx_vars x
      have h0 : 1 + 8 * x0.val = w.val := congrArg (fun z : S4096x2x128.Idx => (z 0).val) hx
      have h1 : 0 + 1 * x1.val = p.val := congrArg (fun z : S4096x2x128.Idx => (z 1).val) hx
      have h2 : 0 + 1 * x2.val = l.val := congrArg (fun z : S4096x2x128.Idx => (z 2).val) hx
      obtain rfl : x1 = p := Fin.ext (by omega)
      obtain rfl : x2 = l := Fin.ext (by omega)
      have e0 : x0 = ⟨w.val / 8, by omega⟩ := Fin.ext (by show x0.val = w.val / 8; omega)
      have e : (⟨128 + x2.val, by omega⟩ : Fin 1024) = ⟨w.val % 8 * 128 + x2.val, by omega⟩ := Fin.ext (by show 128 + x2.val = w.val % 8 * 128 + x2.val; omega)
      refine (pay9_val _ _ _ _ _).trans ?_
      rw [e0, e]
    · intro x hx
      change S512x2x128.Idx at x
      idx_vars x
      have h0 : 0 + 8 * x0.val = w.val := congrArg (fun z : S4096x2x128.Idx => (z 0).val) hx
      have h1 : 0 + 1 * x1.val = p.val := congrArg (fun z : S4096x2x128.Idx => (z 1).val) hx
      have h2 : 0 + 1 * x2.val = l.val := congrArg (fun z : S4096x2x128.Idx => (z 2).val) hx
      obtain rfl : x1 = p := Fin.ext (by omega)
      obtain rfl : x2 = l := Fin.ext (by omega)
      have e0 : x0 = ⟨w.val / 8, by omega⟩ := Fin.ext (by show x0.val = w.val / 8; omega)
      have e : (⟨x2.val, by omega⟩ : Fin 1024) = ⟨w.val % 8 * 128 + x2.val, by omega⟩ := Fin.ext (by show x2.val = w.val % 8 * 128 + x2.val; omega)
      refine (pay8_val _ _ _ _ _).trans ?_
      rw [hA, e0, e]
    · intro q hq
      exact absurd hq List.not_mem_nil

/-! ## The rows -/

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val / 4, 0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![0, t.val] :=
  (by decide +kernel : ∀ t : Fin grid0.N, _)

set_option maxHeartbeats 1000000 in
theorem rows1 (c : Dev nD) (t : Fin cfg0.N) (i : S512x2048.Idx) (j : Cert.Reference4Ideal.S8x2048x2048.Idx)
    (h0 : (j 0 : ℕ) = t.val / 4) (h1 : (j 1 : ℕ) = t.val % 4 * 512 + i 0) (h2 : (j 2 : ℕ) = i 1) :
    k0_pay3 (F := Ideal) (iblk m c 0 t) (iblk m c 4 t) (iblk m c 2 t) (iblk m c 1 t) i
      = X1REF (m ((c : Thread nD τ).loc main_arg0)) (m ((c : Thread nD τ).loc main_arg1)) (m ((c : Thread nD τ).loc main_arg2)) (m ((c : Thread nD τ).loc main_arg4)) j := by
  pointwise [k0_pay3, k0_pay2, X1REF]
  blk_point [iblk, V, idx t]

/-- The modulated rows at a grid point. -/
def hrow (c : Dev nD) (t : Fin cfg0.N) : FVec Ideal S512x2048 .f32 :=
  k0_pay4 (F := Ideal) (iblk m c 0 t) (iblk m c 4 t) (iblk m c 2 t) (iblk m c 1 t) (iblk m c 3 t)

set_option maxHeartbeats 1000000 in
theorem rowsH (c : Dev nD) (t : Fin cfg0.N) (i : S512x2048.Idx) (j : Cert.Reference4Ideal.S8x2048x2048.Idx)
    (h0 : (j 0 : ℕ) = t.val / 4) (h1 : (j 1 : ℕ) = t.val % 4 * 512 + i 0) (h2 : (j 2 : ℕ) = i 1) :
    hrow m c t i
      = HREF (m ((c : Thread nD τ).loc main_arg0)) (m ((c : Thread nD τ).loc main_arg1)) (m ((c : Thread nD τ).loc main_arg2)) (m ((c : Thread nD τ).loc main_arg3)) (m ((c : Thread nD τ).loc main_arg4)) j := by
  unfold hrow
  pointwise [k0_pay4, k0_pay2, HREF]
  have E0 := rows1 m c t i j h0 h1 h2
  have E : ∀ x : Fin 2048, k0_pay3 (F := Ideal) (iblk m c 0 t) (iblk m c 4 t) (iblk m c 2 t) (iblk m c 1 t) (ix2 (i 0) x)
      = X1REF (m ((c : Thread nD τ).loc main_arg0)) (m ((c : Thread nD τ).loc main_arg1)) (m ((c : Thread nD τ).loc main_arg2)) (m ((c : Thread nD τ).loc main_arg4)) (ix3 (j 0) (j 1) x) :=
    fun x => rows1 m c t _ _ h0 h1 rfl
  have n3 : iblk m c 3 t (ix2 (0 : Fin 1) (i 1)) = m ((c : Thread nD τ).loc main_arg3) (ix2 (0 : Fin 1) (j 2)) := by
    blk_point [iblk, V, idx t]
  have s4 : iblk m c 2 t (ix3 (0 : Fin 1) (4 : Fin 6) (i 1)) = m ((c : Thread nD τ).loc main_arg2) (ix2 (j 0) (⟨8192 + (j 2).val, by have : (j 2).val < 2048 := (j 2).isLt; omega⟩ : Fin 12288)) := by
    blk_point [iblk, V, idx t]
  have s3 : iblk m c 2 t (ix3 (0 : Fin 1) (3 : Fin 6) (i 1)) = m ((c : Thread nD τ).loc main_arg2) (ix2 (j 0) (⟨6144 + (j 2).val, by have : (j 2).val < 2048 := (j 2).isLt; omega⟩ : Fin 12288)) := by
    blk_point [iblk, V, idx t]
  rw [E0, n3, s4, s3]
  simp only [E]

/-! ## The three results -/

theorem out1 (c : Dev nD) (t : Fin cfg0.N) : (outsAt0 m c t).1
    = k0_pay3 (F := Ideal) (iblk m c 0 t) (iblk m c 4 t) (iblk m c 2 t) (iblk m c 1 t) := by
  unfold outsAt0
  frame_out

theorem out3 (c : Dev nD) (t : Fin cfg0.N) : (outsAt0 m c t).2.2
    = k0_pay1 (F := Ideal) (k0_pay19 (hrow m c t)) (k0_pay20 (hrow m c t)) (iblk m c 5 t) := by
  unfold outsAt0 hrow
  frame_out

theorem final0 (c : Dev nD) : (dats m 0 c).arrAt 6 (cfgs 0).N = REF0 (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6, out1]
  change S512x2048.Idx at y
  pointwise [REF0]
  refine rows1 m c t y _ ?_ ?_ ?_
  all_goals blk_simp [idx t]
  all_goals have hy : (y 0 : ℕ) < 512 := (y 0).isLt
  all_goals first | omega | (show ((t.val * 512 + (y 0 : ℕ)) / 2048 : ℕ) = t.val / 4; omega) | (show ((t.val * 512 + (y 0 : ℕ)) % 2048 : ℕ) = t.val % 4 * 512 + (y 0 : ℕ); omega)

theorem hp_val (c : Dev nD) (t : Fin cfg0.N) (n : Fin 8192) (l : Fin 128) :
    k0_pay18 (F := Ideal) (View.canon (pieces (k0_pay5 (F := Ideal) (iblk m c 0 t) (iblk m c 4 t) (iblk m c 2 t) (iblk m c 1 t) (iblk m c 3 t)) (k0_pay6 (F := Ideal) (iblk m c 0 t) (iblk m c 4 t) (iblk m c 2 t) (iblk m c 1 t) (iblk m c 3 t)) (k0_pay7 (F := Ideal) (iblk m c 0 t) (iblk m c 4 t) (iblk m c 2 t) (iblk m c 1 t) (iblk m c 3 t)))) (ix2 n l)
      = hrow m c t (ix2 (⟨n.val / 16, by omega⟩ : Fin 512) (⟨n.val % 2 * 1024 + n.val / 2 % 8 * 128 + l.val, by omega⟩ : Fin 2048)) := by
  rw [pay18_val, scratch_val _ _ _ (fun q l => by pointwise [k0_pay7])]
  split
  · next h =>
    pointwise [k0_pay5]
    refine congrArg (hrow m c t) (congrArg₂ ix2 (Fin.ext ?_) (Fin.ext ?_))
    · show n.val / 2 / 8 = n.val / 16
      omega
    · show n.val / 2 % 8 * 128 + l.val = n.val % 2 * 1024 + n.val / 2 % 8 * 128 + l.val
      have h' : n.val % 2 = 0 := h
      omega
  · next h =>
    pointwise [k0_pay6]
    refine congrArg (hrow m c t) (congrArg₂ ix2 (Fin.ext ?_) (Fin.ext ?_))
    · show n.val / 2 / 8 = n.val / 16
      omega
    · show 1024 + (n.val / 2 % 8 * 128 + l.val) = n.val % 2 * 1024 + n.val / 2 % 8 * 128 + l.val
      have h' : ¬n.val % 2 = 0 := h
      omega

theorem final1 (c : Dev nD) : (dats m 0 c).arrAt 7 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, out2]
  change S8192x128.Idx at y
  have e : y = ix2 (y 0 : Fin 8192) (y 1 : Fin 128) := by
    funext a
    fin_cases a <;> rfl
  have hy : (y 0 : ℕ) < 8192 := (y 0).isLt
  have hl : (y 1 : ℕ) < 128 := (y 1).isLt
  refine ((congrArg (k0_pay18 (F := Ideal) _) e).trans (hp_val m c t (y 0) (y 1))).trans ?_
  pointwise [REF1]
  refine rowsH m c t _ _ ?_ ?_ ?_
  all_goals blk_simp [idx t]
  · show (t.val * 8192 + (y 0).val) / 16 / 2048 = t.val / 4
    omega
  · show (t.val * 8192 + (y 0).val) / 16 % 2048 = t.val % 4 * 512 + (y 0).val / 16
    omega
  · show (t.val * 8192 + (y 0).val) % 2 * 1024 + (t.val * 8192 + (y 0).val) / 2 % 8 * 128 + (y 1).val = (y 0).val % 2 * 1024 + (y 0).val / 2 % 8 * 128 + (y 1).val
    omega

theorem pay1_val (X Y : FVec Ideal S512x2048 .bf16) (W : Vec Ideal S64x2048 .f32) (e : Fin 64) (r : Fin 512) :
    k0_pay1 (F := Ideal) X Y W (ix2 e r)
      = ∑ x : Fin 2048, W (ix2 e x) * X (ix2 r x) + ∑ x : Fin 2048, W (ix2 e x) * Y (ix2 r x) + ∑ x : Fin 2048, (W (ix2 e x) - W (ix2 e x)) * X (ix2 r x) := by
  pointwise [k0_pay1]

theorem ref2_val (a0 : FVec Ideal S16384x2048 .bf16) (a1 : FVec Ideal S8x2048x2048 .f32) (a2 : FVec Ideal S8x12288 .f32) (a3 : FVec Ideal S1x2048 .f32)
    (a4 : FVec Ideal S1x2048x2048 .f32) (a5 : FVec Ideal S1x2048x64 .f32) (e : Fin 64) (n : Fin 16384) :
    REF2 a0 a1 a2 a3 a4 a5 (ix2 e n)
      = ∑ x : Fin 2048, HREF a0 a1 a2 a3 a4 (ix3 (⟨n.val / 2048, by omega⟩ : Fin 8) (⟨n.val % 2048, by omega⟩ : Fin 2048) x) * a5 (ix3 (0 : Fin 1) x e) := by
  pointwise [REF2]

theorem ref2_at (a0 : FVec Ideal S16384x2048 .bf16) (a1 : FVec Ideal S8x2048x2048 .f32) (a2 : FVec Ideal S8x12288 .f32) (a3 : FVec Ideal S1x2048 .f32)
    (a4 : FVec Ideal S1x2048x2048 .f32) (a5 : FVec Ideal S1x2048x64 .f32) (t : ℕ) (ht : t < 32) (y0 : Fin 64) (y1 : Fin 512)
    (z : S64x16384.Idx) (h0 : (z 0 : ℕ) = y0.val) (h1 : (z 1 : ℕ) = t * 512 + y1.val) :
    ∑ x : Fin 2048, a5 (ix3 (0 : Fin 1) x y0)
        * HREF a0 a1 a2 a3 a4 (ix3 (⟨t / 4, by omega⟩ : Fin 8) (⟨t % 4 * 512 + y1.val, by omega⟩ : Fin 2048) x)
      = REF2 a0 a1 a2 a3 a4 a5 z := by
  idx_vars z
  obtain rfl : z0 = y0 := Fin.ext h0
  have hz : z1.val = t * 512 + y1.val := h1
  refine Eq.trans ?_ (ref2_val _ _ _ _ _ _ _ _).symm
  refine Finset.sum_congr rfl fun x _ => ?_
  rw [mul_comm]
  have e0 : (⟨t / 4, by omega⟩ : Fin 8) = ⟨z1.val / 2048, by omega⟩ := Fin.ext (by show t / 4 = z1.val / 2048; omega)
  have e1 : (⟨t % 4 * 512 + y1.val, by omega⟩ : Fin 2048) = ⟨z1.val % 2048, by omega⟩ := Fin.ext (by show t % 4 * 512 + y1.val = z1.val % 2048; omega)
  rw [e0, e1]

theorem final2 (c : Dev nD) (hH : ∀ b p d, Re (HREF (m ((c : Thread nD τ).loc main_arg0)) (m ((c : Thread nD τ).loc main_arg1)) (m ((c : Thread nD τ).loc main_arg2)) (m ((c : Thread nD τ).loc main_arg3)) (m ((c : Thread nD τ).loc main_arg4)) (ix3 b p d)))
    (hW : ∀ k e, Re ((m ((c : Thread nD τ).loc main_arg5) : FVec Ideal S1x2048x64 .f32) (ix3 (0 : Fin 1) k e))) :
    (dats m 0 c).arrAt 8 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, out3]
  change S64x512.Idx at y
  idx_vars y
  have ht : t.val < 32 := t.isLt
  have hw : ∀ x : Fin 2048, iblk m c 5 t (ix2 y0 x) = (m ((c : Thread nD τ).loc main_arg5) : FVec Ideal S1x2048x64 .f32) (ix3 (0 : Fin 1) x y0) := by
    intro x
    blk_point [iblk, V, idx t]
  have hh : ∀ x : Fin 2048, hrow m c t (ix2 y1 x) = HREF (m ((c : Thread nD τ).loc main_arg0)) (m ((c : Thread nD τ).loc main_arg1)) (m ((c : Thread nD τ).loc main_arg2)) (m ((c : Thread nD τ).loc main_arg3)) (m ((c : Thread nD τ).loc main_arg4))
      (ix3 (⟨t.val / 4, by omega⟩ : Fin 8) (⟨t.val % 4 * 512 + y1.val, by omega⟩ : Fin 2048) x) :=
    fun x => rowsH m c t _ _ rfl rfl rfl
  refine (pay1_val _ _ _ _ _).trans ?_
  have e19 : ∀ x : Fin 2048, k0_pay19 (F := Ideal) (hrow m c t) (ix2 y1 x) = hrow m c t (ix2 y1 x) := fun x => rfl
  have e20 : ∀ x : Fin 2048, k0_pay20 (F := Ideal) (hrow m c t) (ix2 y1 x) = hrow m c t (ix2 y1 x) - hrow m c t (ix2 y1 x) := fun x => rfl
  simp only [e19, e20, hw, hh]
  simp only [(hH _ _ _).sub_self, (hW _ _).sub_self, mul_zero, zero_mul, Finset.sum_const_zero, add_zero]
  refine ref2_at _ _ _ _ _ _ t.val ht y0 y1 _ ?_ ?_
  all_goals blk_simp [idx t]
end Cert.Outproj

end
-- ==== Proof.Outproj.Alg.lean ====
/- Outproj: what the precondition gives, and the claim. -/
module

public import proofs.«01_k».proof.Proof.Outproj.Value
public import proofs.«01_k».proof.Proof.Outproj.Real
public import proofs.«01_k».proof.Defs
public import proofs.«01_k».proof.Proof.Gen.Kernel4Ideal
public import proofs.«01_k».proof.Proof.Gen.Reference4Ideal

@[expose] public section

set_option maxRecDepth 65536

noncomputable section

namespace Cert.Outproj

open Cert.Kernel4Ideal Cert.Kernel4Ideal.Gen Idealize.ShloMosaic Idealize.ShloMosaic.TcCoe Idealize.SL.Sem

/-- The predicate's shape facts. -/
instance preFacts : Cert.Pre_finite_outproj.Facts where
  slices_S8x12288_S8x4096_0_6144 := by decide
  bcast_S_S8x4096 := by decide
  bcast_S_S1x2048 := by decide
  bcast_S_S1x2048x64 := by decide

theorem top_lit : Ideal.ofBits .f32 0x7F800000#32 = ⊤ := by
  simp [Ideal.ofBits, Ideal.ieee]

/-- A value whose magnitude compares below the top is real. -/
theorem real_of_lt (x : EReal) (e : BitVec.ofBool (decide (max x (-x) < Ideal.ofBits .f32 0x7F800000#32)) = 1#1) : Re x := by
  rw [top_lit] at e
  induction x using EReal.rec with
  | coe x => exact ⟨x, rfl⟩
  | bot => simp at e
  | top => simp at e

section Finite

variable (a0 : FVec Ideal S16384x2048 .bf16) (a1 : FVec Ideal S8x2048x2048 .f32) (a2 : FVec Ideal S8x12288 .f32) (a3 : FVec Ideal S1x2048 .f32) (a4 : FVec Ideal S1x2048x2048 .f32) (a5 : FVec Ideal S1x2048x64 .f32)

theorem real2 (h : (Cert.Pre_finite_outproj.fn (F := Ideal) a0 a1 a2 a3 a4 a5).1 = fun _ => 1#1) (b : Fin 8) (j : Fin 12288) (h0 : 6144 ≤ j.val) (h1 : j.val < 10240) :
    Re (a2 (ix2 b j)) := by
  have e := congrFun h (ix2 b (⟨j.val - 6144, by omega⟩ : Fin 4096))
  revert e
  pointwise [Cert.Pre_finite_outproj.fn]
  intro e
  have e1 : (⟨6144 + (j.val - 6144), by omega⟩ : Fin 12288) = j := Fin.ext (by show 6144 + (j.val - 6144) = j.val; omega)
  rw [e1] at e
  exact real_of_lt _ e

theorem real3 (h : (Cert.Pre_finite_outproj.fn (F := Ideal) a0 a1 a2 a3 a4 a5).2.1 = fun _ => 1#1) : ∀ i, Re (a3 i) := by
  intro i
  idx_vars i
  have e := congrFun h (ix2 i0 i1)
  exact real_of_lt _ e

theorem real5 (h : (Cert.Pre_finite_outproj.fn (F := Ideal) a0 a1 a2 a3 a4 a5).2.2 = fun _ => 1#1) : ∀ i, Re (a5 i) := by
  intro i
  idx_vars i
  have e := congrFun h (ix3 i0 i1 i2)
  exact real_of_lt _ e

end Finite

set_option maxHeartbeats 3200000 in
theorem algebraic : Cert.algebraic_Kernel4Ideal_Reference4Ideal_pre_finite_outproj := by
  pair_intro
  · run_from Cert.Kernel4Ideal.Gen.run_main m g
  · run_from Cert.Reference4Ideal.Value.run (F := Ideal) m' g'
    · exact (final0 m c).symm
    · exact (final1 m c).symm
    · obtain ⟨p2, p3, p5⟩ := hpre c
      have H := h_real (m ((c : Thread nD τ).loc main_arg0)) (m ((c : Thread nD τ).loc main_arg1)) (m ((c : Thread nD τ).loc main_arg2)) (m ((c : Thread nD τ).loc main_arg3)) (m ((c : Thread nD τ).loc main_arg4)) (real2 _ _ _ _ _ _ p2) (real3 _ _ _ _ _ _ p3)
      exact (final2 m c H (fun k e => real5 _ _ _ _ _ _ p5 _)).symm

end Cert.Outproj

end
-- ==== Proof.Ada.Ref.lean ====
/- Adaptive modulation: what the call's plain reference computes, as one term of its arguments. -/
module

public import proofs.«01_k».proof.Proof.Gen.Reference5Ideal.Run
public import Idealize.ShloMosaic.Lib.Pipeline.ValueKit

@[expose] public section

set_option maxRecDepth 16384

noncomputable section

namespace Cert.Ada

open Cert.Reference5Ideal Cert.Reference5Ideal.Gen Idealize.ShloMosaic Idealize.ShloMosaic.TcCoe Idealize.SL.Sem

/-- The conditioning rows passed through the gate, projected, with the bias added. -/
def REF (a0 : FVec Ideal S8x2048 .f32) (a1 : FVec Ideal S1x2048x12288 .f32) (a2 : FVec Ideal S1x12288 .f32) : FVec Ideal S8x12288 .f32 :=
  addf (Host.dotGeneral dot_S8x2048_S2048x12288_S8x12288_1_0_0_1_n_n none (mulf a0 (Host.divf (broadcastInDim S8x2048 ![] bcast_S_S8x2048 (constant S_ .f32 0x3F800000#32)) (addf (broadcastInDim S8x2048 ![] bcast_S_S8x2048 (constant S_ .f32 0x3F800000#32)) (Host.exp (Host.negf a0))))) (shapeCast _ a1 shapeCasts_S1x2048x12288_S2048x12288)) (broadcastInDim S8x12288 ![0, 1] bcast_S1x12288_S8x12288_0_1 (broadcastInDim S1x12288 ![1] bcast_S12288_S1x12288_1 (shapeCast _ a2 shapeCasts_S1x12288_S12288)))

end Cert.Ada

end
-- ==== Proof.Ada.Value.lean ====
/- Adaptive modulation: the kernel's final array is the reference's term. -/
module

public import proofs.«01_k».proof.Proof.Gen.Kernel5Ideal.Frame
public import proofs.«01_k».proof.Proof.Ada.Ref
public import Idealize.ShloMosaic.Lib.Pipeline.ValueKit

@[expose] public section

set_option maxRecDepth 16384

noncomputable section

namespace Cert.Ada

open Cert.Kernel5Ideal Cert.Kernel5Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index at every grid point. -/
theorem idx : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- The conditioning rows with eight rows of zeros below. -/
def PADC (a0 : FVec Ideal S8x2048 .f32) : FVec Ideal S16x2048 .f32 :=
  pad S16x2048 ![0, 0] ![8, 0] ![0, 0] a0 (sitofp .f32 (constantI S_ 32 0#32)) pads_S8x2048_S16x2048_080_000 h_S_

theorem v0_eq (c : Dev nD) : V m c main_v0 = PADC (m ((c : Thread nD τ).loc main_arg0)) := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

theorem v1_eq (c : Dev nD) : V m c main_v1 = shapeCast S2048x12288 (m ((c : Thread nD τ).loc main_arg1)) shapeCasts_S1x2048x12288_S2048x12288 := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

theorem v3_eq (c : Dev nD) : V m c main_v3 = broadcastInDim S1x12288 ![1] bcast_S12288_S1x12288_1 (shapeCast S12288 (m ((c : Thread nD τ).loc main_arg2)) shapeCasts_S1x12288_S12288) := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The padded product: what the region computes, all sixteen rows. -/
def REF16 (a0 : FVec Ideal S16x2048 .f32) (a1 : FVec Ideal S2048x12288 .f32) (a2 : FVec Ideal S1x12288 .f32) : FVec Ideal S16x12288 .f32 :=
  fun z => (∑ x : Fin 2048, (a0 (ix2 (z 0) x) * Ideal.div 1 (1 + Ideal.exp (0 - a0 (ix2 (z 0) x)))) * a1 (ix2 x (z 1))) + a2 (ix2 (0 : Fin 1) (z 1))

/-- One gated entry. -/
def gated (a0 : FVec Ideal S16x2048 .f32) (i : S16x2048.Idx) : EReal :=
  (a0 i : EReal) * Ideal.div 1 (1 + Ideal.exp (0 - a0 i))

theorem out (c : Dev nD) (t : Fin cfg0.N) : out0_3 (F := Ideal) (iblk m c 0 t) (iblk m c 1 t) (iblk m c 2 t)
    = k0_pay1 (F := Ideal) (iblk m c 0 t) (iblk m c 1 t) (iblk m c 2 t) := by
  unfold out0_3
  frame_out

theorem final (c : Dev nD) : (dats (F := Ideal) m 0 c).arrAt 3 (cfgs 0).N
    = REF16 (V m c main_v0) (V m c main_v1) (V m c main_v3) := by
  refine (dats m 0 c).arrAt_eq_of_covers 3 _ (by decide +kernel) fun t hf y => ?_
  blk_simp
  rw [after0_3, out]
  change S16x1024.Idx at y
  idx_vars y
  pointwise [k0_pay1]
  unfold REF16
  refine congrArg₂ (· + ·) (Finset.sum_congr rfl fun x _ => congrArg₂ (· * ·) ?_ ?_) ?_
  · have e : iblk m c 0 t (ix2 y0 x) = V m c main_v0 (ix2 y0 x) := by
      blk_point [iblk, idx t]
    have f : (((cfg0.win 3).blk t).view.emb (ix2 y0 y1) 0 : Fin 16) = y0 := Fin.ext (by blk_simp [idx t])
    rw [e]
    exact (congrArg (fun r : Fin 16 => gated (V m c main_v0) (ix2 r x)) f).symm
  · blk_point [iblk, idx t]
  · blk_point [iblk, idx t]

theorem tail (c : Dev nD) : Pipeline.afterTail₀ cfgs (dats (F := Ideal) m) 0 (V0 m) [hostOps1] c main_v5
    = extractStridedSlice S8x12288 ![0, 0] ((dats m 0 c).arrAt 3 (cfgs 0).N) slices_S16x12288_S8x12288_0_0 := by
  unfold Pipeline.afterTail₀
  simp only [hostOps1, List.flatten_cons, List.flatten_nil, List.append_nil, List.cons_append, List.nil_append]
  after_results
  exact congrArg (fun z => extractStridedSlice S8x12288 ![0, 0] z slices_S16x12288_S8x12288_0_0)
    (Pipeline.withArrays_arr spec0 (by decide) c (V0 m c) (fun w => (dats m 0 c).arrAt w (cfgs 0).N) 3)

theorem ref_at (a0 : FVec Ideal S8x2048 .f32) (a1 : FVec Ideal S1x2048x12288 .f32) (a2 : FVec Ideal S1x12288 .f32) :
    extractStridedSlice S8x12288 ![0, 0] (REF16 (PADC a0) (shapeCast S2048x12288 a1 shapeCasts_S1x2048x12288_S2048x12288)
      (broadcastInDim S1x12288 ![1] bcast_S12288_S1x12288_1 (shapeCast S12288 a2 shapeCasts_S1x12288_S12288))) slices_S16x12288_S8x12288_0_0
      = REF a0 a1 a2 := by
  funext y
  idx_vars y
  pointwise [REF, PADC, REF16]
  simp only [zero_sub]

theorem result (c : Dev nD) : Pipeline.afterTail₀ cfgs (dats (F := Ideal) m) 0 (V0 m) [hostOps1] c main_v5
    = REF (m ((c : Thread nD τ).loc main_arg0)) (m ((c : Thread nD τ).loc main_arg1)) (m ((c : Thread nD τ).loc main_arg2)) := by
  rw [tail, final, v0_eq, v1_eq, v3_eq]
  exact ref_at _ _ _

/-- Every run ends with the reference's term in the result array and the arguments as launched. -/
theorem run (g : Dev nD → PrngReg) : θ_run defs (onTc (τ := τ) (main (F := Ideal))) ⟨m, fun _ => 0, g⟩ (fun r => ∀ c : Dev nD,
      r.2.mem ((c.tc : Thread nD τ).loc main_v5) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m g)

end Cert.Ada

end
-- ==== Proof.lean ====
module

public import proofs.«01_k».proof.Defs
public import proofs.«01_k».proof.Proof.Gen.Kernel
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel3Ideal.Frame
public import proofs.«01_k».proof.Proof.Gen.ReferenceIdeal
public import proofs.«01_k».proof.Proof.Gen.Reference2Ideal
public import proofs.«01_k».proof.Proof.Gen.Reference3Ideal
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel4Ideal.Value
public import proofs.«01_k».proof.Proof.Gen.Reference5Ideal
public import proofs.«01_k».proof.Proof.Gen.Reference5Ideal.Run
public import proofs.«01_k».proof.Proof.Ret.Same
public import proofs.«01_k».proof.Proof.Ret.Alg
public import proofs.«01_k».proof.Proof.Inproj.Value
public import proofs.«01_k».proof.Proof.Mix.Value
public import proofs.«01_k».proof.Proof.Outproj.Alg
public import proofs.«01_k».proof.Proof.Ada.Value
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem Cert.Kernel

theorem frame_kernel : Cert.quiescent_Kernel := Cert.Ret.frame_printed

theorem frame_kernelIdeal : Cert.quiescent_KernelIdeal := fun m g _ => Cert.Ret.frame m g

theorem frame_referenceIdeal : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem frame_kernel2 : Cert.quiescent_Kernel2 := fun m g _ => Cert.Kernel2.Gen.frame m g

theorem frame_kernel2Ideal : Cert.quiescent_Kernel2Ideal := fun m g _ => Cert.Kernel2Ideal.Gen.frame m g

theorem frame_reference2Ideal : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

theorem frame_kernel3 : Cert.quiescent_Kernel3 := fun m g _ => Cert.Kernel3.Gen.frame m g

theorem frame_kernel3Ideal : Cert.quiescent_Kernel3Ideal := fun m g _ => Cert.Kernel3Ideal.Gen.frame m g

theorem frame_reference3Ideal : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

set_option maxHeartbeats 3200000 in
theorem algebraic2 : Cert.algebraic_Kernel2Ideal_Reference2Ideal := by
  pair_intro
  · run_from Cert.Kernel2Ideal.Gen.run_main m g
  · hlo_run
    exact (Cert.Inproj.final m c).symm

set_option maxHeartbeats 3200000 in
theorem algebraic3 : Cert.algebraic_Kernel3Ideal_Reference3Ideal := by
  pair_intro
  · run_from Cert.Kernel3Ideal.Gen.run_main m g
  · hlo_run
    exact (Cert.Mix.final m c).symm

theorem frame_kernel4 : Cert.quiescent_Kernel4 := fun m g _ => Cert.Kernel4.Gen.frame m g

theorem frame_kernel4Ideal : Cert.quiescent_Kernel4Ideal := fun m g _ => Cert.Kernel4Ideal.Gen.frame m g

theorem frame_reference4Ideal : Cert.quiescent_Reference4Ideal := fun m g _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m g)

theorem frame_kernel5 : Cert.quiescent_Kernel5 := fun m g _ => Cert.Kernel5.Gen.frame m g

theorem frame_kernel5Ideal : Cert.quiescent_Kernel5Ideal := fun m g _ => Cert.Kernel5Ideal.Gen.frame m g

theorem frame_reference5Ideal : Cert.quiescent_Reference5Ideal := fun m g _ =>
  (θ_run Cert.Reference5Ideal.defs _ _).mono (fun r h => ⟨fun c => (h c).2, Idealize.ShloMosaic.sem_eq_zero_of_no_sems (by decide) r.2⟩)
    (Cert.Reference5Ideal.Value.run (F := Ideal) m g)

theorem preserves4 : Cert.preserves_Kernel4_Kernel4Ideal :=
  ⟨IdealRules.bf16_pair.bufferStatement Cert.Kernel4Ideal.S4096x2x128 Cert.Kernel4Ideal.S4096x1x128,
    IdealRules.bf16_pair.packStatement Cert.Kernel4Ideal.S512x1024,
    IdealRules.bf16_pair.statement Cert.Kernel4Ideal.S512x2x128 Cert.Kernel4Ideal.S512x1x128,
    IdealRules.bf16_pair.statement Cert.Kernel4Ideal.S4096x2x128 Cert.Kernel4Ideal.S4096x1x128,
    IdealRules.bf16_pair.statement Cert.Kernel4Ideal.S8192x128 Cert.Kernel4Ideal.S4096x128⟩

set_option maxHeartbeats 3200000 in
theorem algebraic5 : Cert.algebraic_Kernel5Ideal_Reference5Ideal := by
  pair_intro
  · run_from Cert.Ada.run m g
  · run_from Cert.Reference5Ideal.Value.run (F := Ideal) m' g'
    rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Ret.preFacts, Cert.Outproj.preFacts,
  frame_kernel, frame_kernelIdeal, fun m g _ => frame_kernelIdeal m g trivial, frame_referenceIdeal, fun m g _ => frame_referenceIdeal m g trivial,
  frame_kernel2, frame_kernel2Ideal, frame_reference2Ideal,
  frame_kernel3, frame_kernel3Ideal, frame_reference3Ideal,
  frame_kernel4, frame_kernel4Ideal, fun m g _ => frame_kernel4Ideal m g trivial, frame_reference4Ideal, fun m g _ => frame_reference4Ideal m g trivial,
  frame_kernel5, frame_kernel5Ideal, frame_reference5Ideal,
  trivial, Cert.Ret.algebraic, trivial, algebraic2, trivial, algebraic3, preserves4, Cert.Outproj.algebraic, trivial, algebraic5⟩

end Cert.Proof

end
